-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v88_0)) (v1 : (c : Dev Cert.Kernel4Ideal.nD) → Buf (Elt Ideal) ((c.tc : Thread Cert.Kernel4Ideal.nD Cert.Kernel4Ideal.τ).loc Cert.Kernel4Ideal.main_v88_1)) (v2 : (c : Dev Cert.Kernel4Ideal.nD) → Buf (Elt Ideal) ((c.tc : Thread Cert.Kernel4Ideal.nD Cert.Kernel4Ideal.τ).loc Cert.Kernel4Ideal.main_v88_2)) (v3 : (c : Dev Cert.Kernel4Ideal.nD) → Buf (Elt Ideal) ((c.tc : Thread Cert.Kernel4Ideal.nD Cert.Kernel4Ideal.τ).loc Cert.Kernel4Ideal.main_v88_3)) (v4 : (c : Dev Cert.Kernel4Ideal.nD) → Buf (Elt Ideal) ((c.tc : Thread Cert.Kernel4Ideal.nD Cert.Kernel4Ideal.τ).loc Cert.Kernel4Ideal.main_v88_4)) (v5 : (c : Dev Cert.Kernel4Ideal.nD) → Buf (Elt Ideal) ((c.tc : Thread Cert.Kernel4Ideal.nD Cert.Kernel4Ideal.τ).loc Cert.Kernel4Ideal.main_v88_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v88_0) = v0 c
          ∧ r.2.mem ((c.tc : Thread Cert.Kernel4Ideal.nD Cert.Kernel4Ideal.τ).loc Cert.Kernel4Ideal.main_v88_1) = v1 c
          ∧ r.2.mem ((c.tc : Thread Cert.Kernel4Ideal.nD Cert.Kernel4Ideal.τ).loc Cert.Kernel4Ideal.main_v88_2) = v2 c
          ∧ r.2.mem ((c.tc : Thread Cert.Kernel4Ideal.nD Cert.Kernel4Ideal.τ).loc Cert.Kernel4Ideal.main_v88_3) = v3 c
          ∧ r.2.mem ((c.tc : Thread Cert.Kernel4Ideal.nD Cert.Kernel4Ideal.τ).loc Cert.Kernel4Ideal.main_v88_4) = v4 c
          ∧ r.2.mem ((c.tc : Thread Cert.Kernel4Ideal.nD Cert.Kernel4Ideal.τ).loc Cert.Kernel4Ideal.main_v88_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v164) = v0 c
          ∧ r.2.mem ((c.tc : Thread Cert.Reference4Ideal.nD Cert.Reference4Ideal.τ).loc Cert.Reference4Ideal.main_v166) = v1 c
          ∧ r.2.mem ((c.tc : Thread Cert.Reference4Ideal.nD Cert.Reference4Ideal.τ).loc Cert.Reference4Ideal.main_v168) = v2 c
          ∧ r.2.mem ((c.tc : Thread Cert.Reference4Ideal.nD Cert.Reference4Ideal.τ).loc Cert.Reference4Ideal.main_v170) = v3 c
          ∧ r.2.mem ((c.tc : Thread Cert.Reference4Ideal.nD Cert.Reference4Ideal.τ).loc Cert.Reference4Ideal.main_v172) = v4 c
          ∧ r.2.mem ((c.tc : Thread Cert.Reference4Ideal.nD Cert.Reference4Ideal.τ).loc Cert.Reference4Ideal.main_v173) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x2048x2048 : Shape := ⟨3, ![8, 2048, 2048]⟩
abbrev S1x2048 : Shape := ⟨2, ![1, 2048]⟩
abbrev S1x2048x9808 : Shape := ⟨3, ![1, 2048, 9808]⟩
abbrev S2048x9808 : Shape := ⟨2, ![2048, 9808]⟩
abbrev S9808x2048 : Shape := ⟨2, ![9808, 2048]⟩
abbrev S2048 : Shape := ⟨1, ![2048]⟩
abbrev S16384x2048 : Shape := ⟨2, ![16384, 2048]⟩
abbrev S16384x7168 : Shape := ⟨2, ![16384, 7168]⟩
abbrev S1024x2048 : Shape := ⟨2, ![1024, 2048]⟩
abbrev S1792x2048 : Shape := ⟨2, ![1792, 2048]⟩
abbrev S1024x1792 : Shape := ⟨2, ![1024, 1792]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x9808, .f32⟩
  | .hbm, ⟨3, _⟩ => ⟨S2048x9808, .f32⟩
  | .hbm, ⟨4, _⟩ => ⟨S9808x2048, .f32⟩
  | .hbm, ⟨5, _⟩ => ⟨S9808x2048, .bf16⟩
  | .hbm, ⟨6, _⟩ => ⟨S2048, .f32⟩
  | .hbm, ⟨7, _⟩ => ⟨S1x2048, .f32⟩
  | .hbm, ⟨8, _⟩ => ⟨S16384x2048, .f32⟩
  | .hbm, ⟨9, _⟩ => ⟨S16384x7168, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1792x2048, .bf16⟩
  | .local _ .vmem, ⟨4, _⟩ => ⟨S1792x2048, .bf16⟩
  | .local _ .vmem, ⟨5, _⟩ => ⟨S1024x1792, .bf16⟩
  | .local _ .vmem, ⟨6, _⟩ => ⟨S1024x1792, .bf16⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c2640_i32 : BitVec 32 := 2640#32
  let arg1 : BitVec 32 := BitVec.ofNat 32 (i 1).val
  let c1792_i32 : BitVec 32 := 1792#32
  let v0 : BitVec 32 := Scalar.muli arg1 c1792_i32
  let v1 : BitVec 32 := Scalar.addi c2640_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1792_i32 : BitVec 32 := 1792#32
  let v0 : BitVec 32 := Scalar.muli arg1 c1792_i32
  let c2640_i32 : BitVec 32 := 2640#32
  let v1 : BitVec 32 := Scalar.addi c2640_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1792x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2048x2048 : Shape := ⟨3, ![8, 2048, 2048]⟩
abbrev S1x2048 : Shape := ⟨2, ![1, 2048]⟩
abbrev S1x2048x9808 : Shape := ⟨3, ![1, 2048, 9808]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x9808 : Shape := ⟨2, ![2048, 9808]⟩
abbrev S8x2048x9808 : Shape := ⟨3, ![8, 2048, 9808]⟩
abbrev S8x2048x7168 : Shape := ⟨3, ![8, 2048, 7168]⟩
abbrev S16384x7168 : Shape := ⟨2, ![16384, 7168]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x9808, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x9808, .f32⟩
  | .hbm, ⟨21, _⟩ => ⟨S8x2048x9808, .f32⟩
  | .hbm, ⟨22, _⟩ => ⟨S8x2048x7168, .f32⟩
  | .hbm, ⟨23, _⟩ => ⟨S16384x7168, .f32⟩
  | .hbm, ⟨24, _⟩ => ⟨S16384x7168, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel2.lean ====
abbrev S8x2048x2048 : Shape := ⟨3, ![8, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S16384x2048 : Shape := ⟨2, ![16384, 2048]⟩
abbrev S2048 : Shape := ⟨1, ![2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 15
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048x5632, .f32⟩
  | .hbm, ⟨6, _⟩ => ⟨S2048x5632, .bf16⟩
  | .hbm, ⟨7, _⟩ => ⟨S2048x5632, .f32⟩
  | .hbm, ⟨8, _⟩ => ⟨S2048x5632, .bf16⟩
  | .hbm, ⟨9, _⟩ => ⟨S5632x2048, .f32⟩
  | .hbm, ⟨10, _⟩ => ⟨S5632x2048, .bf16⟩
  | .hbm, ⟨11, _⟩ => ⟨S16384x2048, .f32⟩
  | .hbm, ⟨12, _⟩ => ⟨S2048, .f32⟩
  | .hbm, ⟨13, _⟩ => ⟨S1x2048, .f32⟩
  | .hbm, ⟨14, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x2048x2048 : Shape := ⟨3, ![8, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x5632 : Shape := ⟨2, ![2048, 5632]⟩
abbrev S5632x2048 : Shape := ⟨2, ![5632, 2048]⟩
abbrev S8x2048x5632 : Shape := ⟨3, ![8, 2048, 5632]⟩
abbrev S16384x2048 : Shape := ⟨2, ![16384, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S8x2048x5632, .f32⟩
  | .hbm, ⟨26, _⟩ => ⟨S8x2048x5632, .f32⟩
  | .hbm, ⟨27, _⟩ => ⟨S8x2048x5632, .f32⟩
  | .hbm, ⟨28, _⟩ => ⟨S_, .f32⟩
  | .hbm, ⟨29, _⟩ => ⟨S8x2048x5632, .f32⟩
  | .hbm, ⟨30, _⟩ => ⟨S8x2048x5632, .f32⟩
  | .hbm, ⟨31, _⟩ => ⟨S_, .f32⟩
  | .hbm, ⟨32, _⟩ => ⟨S8x2048x5632, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S8x2048x5632, .f32⟩
  | .hbm, ⟨37, _⟩ => ⟨S8x2048x2048, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Kernel3.lean ====
abbrev S8x2048x2048 : Shape := ⟨3, ![8, 2048, 2048]⟩
abbrev S8x2048x1024 : Shape := ⟨3, ![8, 2048, 1024]⟩
abbrev S16384x7168 : Shape := ⟨2, ![16384, 7168]⟩
abbrev S16x3072 : Shape := ⟨2, ![16, 3072]⟩
abbrev S1x3x1024 : Shape := ⟨3, ![1, 3, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S16384x2048 : Shape := ⟨2, ![16384, 2048]⟩
abbrev S16384x1024 : Shape := ⟨2, ![16384, 1024]⟩
abbrev S3x1024 : Shape := ⟨2, ![3, 1024]⟩
abbrev S1024 : Shape := ⟨1, ![1024]⟩
abbrev S256x2048 : Shape := ⟨2, ![256, 2048]⟩
abbrev S256x1024 : Shape := ⟨2, ![256, 1024]⟩
abbrev S16x1024 : Shape := ⟨2, ![16, 1024]⟩

abbrev nBuf : Space → Nat
  | .hbm => 21
  | .vmem => 31
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S16384x7168, .bf16⟩
  | .hbm, ⟨3, _⟩ => ⟨S16x3072, .bf16⟩
  | .hbm, ⟨4, _⟩ => ⟨S1x3x1024, .f32⟩
  | .hbm, ⟨5, _⟩ => ⟨S1x1024, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S1024x2048, .f32⟩
  | .hbm, ⟨10, _⟩ => ⟨S1024x2048, .bf16⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S16384x2048, .f32⟩
  | .hbm, ⟨16, _⟩ => ⟨S16384x1024, .bf16⟩
  | .hbm, ⟨17, _⟩ => ⟨S3x1024, .f32⟩
  | .hbm, ⟨18, _⟩ => ⟨S1024, .f32⟩
  | .hbm, ⟨19, _⟩ => ⟨S1x1024, .f32⟩
  | .hbm, ⟨20, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S16x1024, .bf16⟩
  | .local _ .vmem, ⟨19, _⟩ => ⟨S16x1024, .bf16⟩
  | .local _ .vmem, ⟨20, _⟩ => ⟨S16x1024, .bf16⟩
  | .local _ .vmem, ⟨21, _⟩ => ⟨S16x1024, .bf16⟩
  | .local _ .vmem, ⟨22, _⟩ => ⟨S16x1024, .bf16⟩
  | .local _ .vmem, ⟨23, _⟩ => ⟨S16x1024, .bf16⟩
  | .local _ .vmem, ⟨24, _⟩ => ⟨S3x1024, .f32⟩
  | .local _ .vmem, ⟨25, _⟩ => ⟨S1x1024, .f32⟩
  | .local _ .vmem, ⟨26, _⟩ => ⟨S1024x2048, .bf16⟩
  | .local _ .vmem, ⟨27, _⟩ => ⟨S1024x2048, .bf16⟩
  | .local _ .vmem, ⟨28, _⟩ => ⟨S2048x2048, .bf16⟩
  | .local _ .vmem, ⟨29, _⟩ => ⟨S256x2048, .f32⟩
  | .local _ .vmem, ⟨30, _⟩ => ⟨S256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2048x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S8x2048x2048 : Shape := ⟨3, ![8, 2048, 2048]⟩
abbrev S8x2048x1024 : Shape := ⟨3, ![8, 2048, 1024]⟩
abbrev S16384x7168 : Shape := ⟨2, ![16384, 7168]⟩
abbrev S16x3072 : Shape := ⟨2, ![16, 3072]⟩
abbrev S1x3x1024 : Shape := ⟨3, ![1, 3, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S8x2048x7168 : Shape := ⟨3, ![8, 2048, 7168]⟩
abbrev S1x16x3072 : Shape := ⟨3, ![1, 16, 3072]⟩
abbrev S8x16x3072 : Shape := ⟨3, ![8, 16, 3072]⟩
abbrev S8x16x1024 : Shape := ⟨3, ![8, 16, 1024]⟩
abbrev S8x2064x1024 : Shape := ⟨3, ![8, 2064, 1024]⟩
abbrev S3x1024 : Shape := ⟨2, ![3, 1024]⟩
abbrev S1024 : Shape := ⟨1, ![1024]⟩
abbrev S_ : Shape := ⟨0, ![]⟩
abbrev S8x2066x1024 : Shape := ⟨3, ![8, 2066, 1024]⟩
abbrev S1x1x1024 : Shape := ⟨3, ![1, 1, 1024]⟩
abbrev S1024x2048 : Shape := ⟨2, ![1024, 2048]⟩
abbrev S2048x2048 : Shape := ⟨2, ![2048, 2048]⟩
abbrev S16384x2048 : Shape := ⟨2, ![16384, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S16384x7168, .bf16⟩
  | .hbm, ⟨3, _⟩ => ⟨S16x3072, .bf16⟩
  | .hbm, ⟨4, _⟩ => ⟨S1x3x1024, .f32⟩
  | .hbm, ⟨5, _⟩ => ⟨S1x1024, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S16384x7168, .f32⟩
  | .hbm, ⟨10, _⟩ => ⟨S8x2048x7168, .f32⟩
  | .hbm, ⟨11, _⟩ => ⟨S16x3072, .f32⟩
  | .hbm, ⟨12, _⟩ => ⟨S1x16x3072, .f32⟩
  | .hbm, ⟨13, _⟩ => ⟨S8x16x3072, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x2048, .f32⟩
  | .hbm, ⟨18, _⟩ => ⟨S8x2048x2048, .f32⟩
  | .hbm, ⟨19, _⟩ => ⟨S8x16x1024, .f32⟩
  | .hbm, ⟨20, _⟩ => ⟨S8x16x1024, .f32⟩
  | .hbm, ⟨21, _⟩ => ⟨S8x16x1024, .f32⟩
  | .hbm, ⟨22, _⟩ => ⟨S8x2048x1024, .f32⟩
  | .hbm, ⟨23, _⟩ => ⟨S8x2064x1024, .f32⟩
  | .hbm, ⟨24, _⟩ => ⟨S3x1024, .f32⟩
  | .hbm, ⟨25, _⟩ => ⟨S1024, .f32⟩
  | .hbm, ⟨26, _⟩ => ⟨S_, .i32⟩
  | .hbm, ⟨27, _⟩ => ⟨S_, .f32⟩
  | .hbm, ⟨28, _⟩ => ⟨S8x2066x1024, .f32⟩
  | .hbm, ⟨29, _⟩ => ⟨S1x1024, .f32⟩
  | .hbm, ⟨30, _⟩ => ⟨S1024, .f32⟩
  | .hbm, ⟨31, _⟩ => ⟨S8x2064x1024, .f32⟩
  | .hbm, ⟨32, _⟩ => ⟨S1x1x1024, .f32⟩
  | .hbm, ⟨33, _⟩ => ⟨S8x2064x1024, .f32⟩
  | .hbm, ⟨34, _⟩ => ⟨S8x2064x1024, .f32⟩
  | .hbm, ⟨35, _⟩ => ⟨S1x1024, .f32⟩
  | .hbm, ⟨36, _⟩ => ⟨S1024, .f32⟩
  | .hbm, ⟨37, _⟩ => ⟨S8x2064x1024, .f32⟩
  | .hbm, ⟨38, _⟩ => ⟨S1x1x1024, .f32⟩
  | .hbm, ⟨39, _⟩ => ⟨S8x2064x1024, .f32⟩
  | .hbm, ⟨40, _⟩ => ⟨S8x2064x1024, .f32⟩
  | .hbm, ⟨41, _⟩ => ⟨S8x2064x1024, .f32⟩
  | .hbm, ⟨42, _⟩ => ⟨S1x1024, .f32⟩
  | .hbm, ⟨43, _⟩ => ⟨S1024, .f32⟩
  | .hbm, ⟨44, _⟩ => ⟨S8x2064x1024, .f32⟩
  | .hbm, ⟨45, _⟩ => ⟨S1x1x1024, .f32⟩
  | .hbm, ⟨46, _⟩ => ⟨S8x2064x1024, .f32⟩
  | .hbm, ⟨47, _⟩ => ⟨S8x2064x1024, .f32⟩
  | .hbm, ⟨48, _⟩ => ⟨S8x2064x1024, .f32⟩
  | .hbm, ⟨49, _⟩ => ⟨S1x1x1024, .f32⟩
  | .hbm, ⟨50, _⟩ => ⟨S8x2064x1024, .f32⟩
  | .hbm, ⟨51, _⟩ => ⟨S8x2064x1024, .f32⟩
  | .hbm, ⟨52, _⟩ => ⟨S8x2048x1024, .f32⟩
  | .hbm, ⟨53, _⟩ => ⟨S8x2048x1024, .f32⟩
  | .hbm, ⟨54, _⟩ => ⟨S1024x2048, .f32⟩
  | .hbm, ⟨55, _⟩ => ⟨S8x2048x2048, .f32⟩
  | .hbm, ⟨56, _⟩ => ⟨S8x2048x1024, .f32⟩
  | .hbm, ⟨57, _⟩ => ⟨S1024x2048, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048x2048, .f32⟩
  | .hbm, ⟨63, _⟩ => ⟨S8x2048x2048, .f32⟩
  | .hbm, ⟨64, _⟩ => ⟨S_, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S8x2048x2048, .f32⟩
  | .hbm, ⟨70, _⟩ => ⟨S_, .f32⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S8x2048x2048, .f32⟩
  | .hbm, ⟨75, _⟩ => ⟨S8x2048x2048, .f32⟩
  | .hbm, ⟨76, _⟩ => ⟨S8x2048x2048, .f32⟩
  | .hbm, ⟨77, _⟩ => ⟨S8x2048x2048, .f32⟩
  | .hbm, ⟨78, _⟩ => ⟨S2048x2048, .f32⟩
  | .hbm, ⟨79, _⟩ => ⟨S8x2048x2048, .f32⟩
  | .hbm, ⟨80, _⟩ => ⟨S8x2048x2048, .f32⟩
  | .hbm, ⟨81, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst : Ref sig .tc := ⟨.hbm, 61, rfl⟩
abbrev main_v50 : Ref sig .tc := ⟨.hbm, 62, rfl⟩
abbrev main_v51 : Ref sig .tc := ⟨.hbm, 63, rfl⟩
abbrev main_cst_0 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_1 : Ref sig .tc := ⟨.hbm, 70, rfl⟩
abbrev main_v57 : Ref sig .tc := ⟨.hbm, 71, rfl⟩
abbrev main_v58 : Ref sig .tc := ⟨.hbm, 72, rfl⟩
abbrev main_cst_2 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩

abbrev nD : Nat := 1
abbrev τ : Topo := Topo.v7x

variable {F : FTy → Type} [FloatOps F]
-- ==== Kernel4.lean ====
abbrev S8x2048x2048 : Shape := ⟨3, ![8, 2048, 2048]⟩
abbrev S1x2048 : Shape := ⟨2, ![1, 2048]⟩
abbrev S1x2048x9808 : Shape := ⟨3, ![1, 2048, 9808]⟩
abbrev S1x128 : Shape := ⟨2, ![1, 128]⟩
abbrev S2048x9808 : Shape := ⟨2, ![2048, 9808]⟩
abbrev S9808x2048 : Shape := ⟨2, ![9808, 2048]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S1x2048x1x128 : Shape := ⟨4, ![1, 2048, 1, 128]⟩
abbrev S8 : Shape := ⟨1, ![8]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S1x2048x128 : Shape := ⟨3, ![1, 2048, 128]⟩
abbrev S6x2048x128 : Shape := ⟨3, ![6, 2048, 128]⟩
abbrev S16384x2048 : Shape := ⟨2, ![16384, 2048]⟩
abbrev S128 : Shape := ⟨1, ![128]⟩
abbrev S16384x1024 : Shape := ⟨2, ![16384, 1024]⟩
abbrev S16384x256 : Shape := ⟨2, ![16384, 256]⟩
abbrev S16384x128 : Shape := ⟨2, ![16384, 128]⟩
abbrev S256x2048 : Shape := ⟨2, ![256, 2048]⟩
abbrev S1024x2048 : Shape := ⟨2, ![1024, 2048]⟩
abbrev S128x2048 : Shape := ⟨2, ![128, 2048]⟩
abbrev S6x256x128 : Shape := ⟨3, ![6, 256, 128]⟩
abbrev S256x1024 : Shape := ⟨2, ![256, 1024]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 114
  | .vmem => 24
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x9808, .f32⟩
  | .hbm, ⟨3, _⟩ => ⟨S1x128, .f32⟩
  | .hbm, ⟨4, _⟩ => ⟨S1x128, .f32⟩
  | .hbm, ⟨5, _⟩ => ⟨S2048x9808, .f32⟩
  | .hbm, ⟨6, _⟩ => ⟨S9808x2048, .f32⟩
  | .hbm, ⟨7, _⟩ => ⟨S9808x2048, .bf16⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S2048, .f32⟩
  | .hbm, ⟨27, _⟩ => ⟨S2048x1, .f32⟩
  | .hbm, ⟨28, _⟩ => ⟨S1x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S_, .f32⟩
  | .hbm, ⟨35, _⟩ => ⟨S2048x96, .f32⟩
  | .hbm, ⟨36, _⟩ => ⟨S2048x128, .f32⟩
  | .hbm, ⟨37, _⟩ => ⟨S_, .f32⟩
  | .hbm, ⟨38, _⟩ => ⟨S2048x16, .f32⟩
  | .hbm, ⟨39, _⟩ => ⟨S_, .f32⟩
  | .hbm, ⟨40, _⟩ => ⟨S2048x96, .f32⟩
  | .hbm, ⟨41, _⟩ => ⟨S2048x16, .f32⟩
  | .hbm, ⟨42, _⟩ => ⟨S2048x128, .f32⟩
  | .hbm, ⟨43, _⟩ => ⟨S2048x128, .f32⟩
  | .hbm, ⟨44, _⟩ => ⟨S1x2048x1x128, .f32⟩
  | .hbm, ⟨45, _⟩ => ⟨S1x2048x1x128, .f32⟩
  | .hbm, ⟨46, _⟩ => ⟨S2048x128, .f32⟩
  | .hbm, ⟨47, _⟩ => ⟨S1x2048x1x128, .f32⟩
  | .hbm, ⟨48, _⟩ => ⟨S1x2048x1x128, .f32⟩
  | .hbm, ⟨49, _⟩ => ⟨S2048x128, .f32⟩
  | .hbm, ⟨50, _⟩ => ⟨S1x2048x1x128, .f32⟩
  | .hbm, ⟨51, _⟩ => ⟨S1x2048x1x128, .f32⟩
  | .hbm, ⟨52, _⟩ => ⟨S2048x128, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S2048, .f32⟩
  | .hbm, ⟨68, _⟩ => ⟨S2048x1, .f32⟩
  | .hbm, ⟨69, _⟩ => ⟨S1x8, .f32⟩
  | .hbm, ⟨70, _⟩ => ⟨S2048x8, .f32⟩
  | .hbm, ⟨71, _⟩ => ⟨S2048x8, .f32⟩
  | .hbm, ⟨72, _⟩ => ⟨S2048x8, .f32⟩
  | .hbm, ⟨73, _⟩ => ⟨S2048x8, .f32⟩
  | .hbm, ⟨74, _⟩ => ⟨S2048x8, .f32⟩
  | .hbm, ⟨75, _⟩ => ⟨S_, .f32⟩
  | .hbm, ⟨76, _⟩ => ⟨S2048x48, .f32⟩
  | .hbm, ⟨77, _⟩ => ⟨S2048x64, .f32⟩
  | .hbm, ⟨78, _⟩ => ⟨S_, .f32⟩
  | .hbm, ⟨79, _⟩ => ⟨S2048x8, .f32⟩
  | .hbm, ⟨80, _⟩ => ⟨S_, .f32⟩
  | .hbm, ⟨81, _⟩ => ⟨S2048x48, .f32⟩
  | .hbm, ⟨82, _⟩ => ⟨S2048x8, .f32⟩
  | .hbm, ⟨83, _⟩ => ⟨S2048x64, .f32⟩
  | .hbm, ⟨84, _⟩ => ⟨S2048x64, .f32⟩
  | .hbm, ⟨85, _⟩ => ⟨S1x2048x1x64, .f32⟩
  | .hbm, ⟨86, _⟩ => ⟨S1x2048x2x64, .f32⟩
  | .hbm, ⟨87, _⟩ => ⟨S2048x128, .f32⟩
  | .hbm, ⟨88, _⟩ => ⟨S1x2048x1x64, .f32⟩
  | .hbm, ⟨89, _⟩ => ⟨S1x2048x2x64, .f32⟩
  | .hbm, ⟨90, _⟩ => ⟨S2048x128, .f32⟩
  | .hbm, ⟨91, _⟩ => ⟨S1x2048x1x64, .f32⟩
  | .hbm, ⟨92, _⟩ => ⟨S1x2048x2x64, .f32⟩
  | .hbm, ⟨93, _⟩ => ⟨S2048x128, .f32⟩
  | .hbm, ⟨94, _⟩ => ⟨S1x2048x128, .f32⟩
  | .hbm, ⟨95, _⟩ => ⟨S1x2048x128, .f32⟩
  | .hbm, ⟨96, _⟩ => ⟨S1x2048x128, .f32⟩
  | .hbm, ⟨97, _⟩ => ⟨S1x2048x128, .f32⟩
  | .hbm, ⟨98, _⟩ => ⟨S1x2048x128, .f32⟩
  | .hbm, ⟨99, _⟩ => ⟨S1x2048x128, .f32⟩
  | .hbm, ⟨100, _⟩ => ⟨S6x2048x128, .f32⟩
  | .hbm, ⟨101, _⟩ => ⟨S16384x2048, .f32⟩
  | .hbm, ⟨102, _⟩ => ⟨S2048, .f32⟩
  | .hbm, ⟨103, _⟩ => ⟨S1x2048, .f32⟩
  | .hbm, ⟨104, _⟩ => ⟨S128, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S16384x1024, .bf16⟩
  | .hbm, ⟨109, _⟩ => ⟨S16384x1024, .bf16⟩
  | .hbm, ⟨110, _⟩ => ⟨S16384x256, .bf16⟩
  | .hbm, ⟨111, _⟩ => ⟨S16384x256, .bf16⟩
  | .hbm, ⟨112, _⟩ => ⟨S16384x128, .bf16⟩
  | .hbm, ⟨113, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S256x2048, .bf16⟩
  | .local _ .vmem, ⟨6, _⟩ => ⟨S256x2048, .bf16⟩
  | .local _ .vmem, ⟨7, _⟩ => ⟨S128x2048, .bf16⟩
  | .local _ .vmem, ⟨8, _⟩ => ⟨S1x128, .f32⟩
  | .local _ .vmem, ⟨9, _⟩ => ⟨S1x128, .f32⟩
  | .local _ .vmem, ⟨10, _⟩ => ⟨S6x256x128, .f32⟩
  | .local _ .vmem, ⟨11, _⟩ => ⟨S6x256x128, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x128, .bf16⟩
  | .local _ .vmem, ⟨21, _⟩ => ⟨S256x128, .bf16⟩
  | .local _ .vmem, ⟨22, _⟩ => ⟨S256x128, .f32⟩
  | .local _ .vmem, ⟨23, _⟩ => ⟨S256x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88_0 : Ref sig .tc := ⟨.hbm, 108, rfl⟩
abbrev main_v88_1 : Ref sig .tc := ⟨.hbm, 109, rfl⟩
abbrev main_v88_2 : Ref sig .tc := ⟨.hbm, 110, rfl⟩
abbrev main_v88_3 : Ref sig .tc := ⟨.hbm, 111, rfl⟩
abbrev main_v88_4 : Ref sig .tc := ⟨.hbm, 112, rfl⟩
abbrev main_v88_5 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1536_i32 : BitVec 32 := 1536#32
  let c0_i32 : BitVec 32 := 0#32
  let c0_i32_0 : BitVec 32 := 0#32
  ![c1536_i32.toNat, c0_i32.toNat]

def cc0_transform_4 (i : grid0.Coords) : Fin 2 → Nat :=
  let arg0 : BitVec 32 := BitVec.ofNat 32 (i 0).val
  let c1024_i32 : BitVec 32 := 1024#32
  let c0_i32 : BitVec 32 := 0#32
  let c0_i32_0 : BitVec 32 := 0#32
  ![c1024_i32.toNat, c0_i32.toNat]

def cc0_transform_5 (i : grid0.Coords) : Fin 2 → Nat :=
  let arg0 : BitVec 32 := BitVec.ofNat 32 (i 0).val
  let c1280_i32 : BitVec 32 := 1280#32
  let c0_i32 : BitVec 32 := 0#32
  let c0_i32_0 : BitVec 32 := 0#32
  ![c1280_i32.toNat, c0_i32.toNat]

def cc0_transform_6 (i : grid0.Coords) : Fin 2 → Nat :=
  let arg0 : BitVec 32 := BitVec.ofNat 32 (i 0).val
  let c2560_i32 : BitVec 32 := 2560#32
  let c0_i32 : BitVec 32 := 0#32
  let c0_i32_0 : BitVec 32 := 0#32
  ![c2560_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S8x2048x2048 : Shape := ⟨3, ![8, 2048, 2048]⟩
abbrev S1x2048 : Shape := ⟨2, ![1, 2048]⟩
abbrev S1x2048x9808 : Shape := ⟨3, ![1, 2048, 9808]⟩
abbrev S1x128 : Shape := ⟨2, ![1, 128]⟩
abbrev S16 : Shape := ⟨1, ![16]⟩
abbrev S_ : Shape := ⟨0, ![]⟩
abbrev S2064 : Shape := ⟨1, ![2064]⟩
abbrev S2064x1 : Shape := ⟨2, ![2064, 1]⟩
abbrev S1x16 : Shape := ⟨2, ![1, 16]⟩
abbrev S2064x16 : Shape := ⟨2, ![2064, 16]⟩
abbrev S2048x16 : Shape := ⟨2, ![2048, 16]⟩
abbrev S8 : Shape := ⟨1, ![8]⟩
abbrev S1x8 : Shape := ⟨2, ![1, 8]⟩
abbrev S2064x8 : Shape := ⟨2, ![2064, 8]⟩
abbrev S2048x8 : Shape := ⟨2, ![2048, 8]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S2048x9808 : Shape := ⟨2, ![2048, 9808]⟩
abbrev S8x2048x9808 : Shape := ⟨3, ![8, 2048, 9808]⟩
abbrev S8x2048x1024 : Shape := ⟨3, ![8, 2048, 1024]⟩
abbrev S8x2048x8x128 : Shape := ⟨4, ![8, 2048, 8, 128]⟩
abbrev S128 : Shape := ⟨1, ![128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x8x16 : Shape := ⟨4, ![8, 2048, 8, 16]⟩
abbrev S1x2048x1x16 : Shape := ⟨4, ![1, 2048, 1, 16]⟩
abbrev S8x2048x8x96 : Shape := ⟨4, ![8, 2048, 8, 96]⟩
abbrev S8x2048x256 : Shape := ⟨3, ![8, 2048, 256]⟩
abbrev S8x2048x2x128 : Shape := ⟨4, ![8, 2048, 2, 128]⟩
abbrev S8x2048x2 : Shape := ⟨3, ![8, 2048, 2]⟩
abbrev S8x2048x2x1 : Shape := ⟨4, ![8, 2048, 2, 1]⟩
abbrev S8x2048x2x16 : Shape := ⟨4, ![8, 2048, 2, 16]⟩
abbrev S8x2048x2x96 : Shape := ⟨4, ![8, 2048, 2, 96]⟩
abbrev S8x2048x16x64 : Shape := ⟨4, ![8, 2048, 16, 64]⟩
abbrev S8x2048x16x8 : Shape := ⟨4, ![8, 2048, 16, 8]⟩
abbrev S1x2048x1x8 : Shape := ⟨4, ![1, 2048, 1, 8]⟩
abbrev S8x2048x16x48 : Shape := ⟨4, ![8, 2048, 16, 48]⟩
abbrev S8x2048x64 : Shape := ⟨3, ![8, 2048, 64]⟩
abbrev S8x2048x1x64 : Shape := ⟨4, ![8, 2048, 1, 64]⟩
abbrev S8x2048x1x8 : Shape := ⟨4, ![8, 2048, 1, 8]⟩
abbrev S8x2048x1x48 : Shape := ⟨4, ![8, 2048, 1, 48]⟩
abbrev S8x2048x128 : Shape := ⟨3, ![8, 2048, 128]⟩
abbrev S16384x1024 : Shape := ⟨2, ![16384, 1024]⟩
abbrev S16384x256 : Shape := ⟨2, ![16384, 256]⟩
abbrev S16384x128 : Shape := ⟨2, ![16384, 128]⟩

abbrev nBuf : Space → Nat
  | .hbm => 197
  | .vmem => 0
  | .smem => 0
  | _ => 0

abbrev hbmTy0_0 (i : Nat) : BufTy := match i % 128 with
  | 0 => ⟨S8x2048x2048, .f32⟩
  | 1 => ⟨S1x2048, .f32⟩
  | 2 => ⟨S1x2048x9808, .f32⟩
  | 3 => ⟨S1x128, .f32⟩
  | 4 => ⟨S1x128, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S2064, .f32⟩
  | 20 => ⟨S2064x1, .f32⟩
  | 21 => ⟨S1x16, .f32⟩
  | 22 => ⟨S2064x16, .f32⟩
  | 23 => ⟨S2064x16, .f32⟩
  | 24 => ⟨S2064x16, .f32⟩
  | 25 => ⟨S2064x16, .f32⟩
  | 26 => ⟨S2064x16, .f32⟩
  | 27 => ⟨S2048x16, .f32⟩
  | 28 => ⟨S2048x16, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S2064, .f32⟩
  | 44 => ⟨S2064x1, .f32⟩
  | 45 => ⟨S1x8, .f32⟩
  | 46 => ⟨S2064x8, .f32⟩
  | 47 => ⟨S2064x8, .f32⟩
  | 48 => ⟨S2064x8, .f32⟩
  | 49 => ⟨S2064x8, .f32⟩
  | 50 => ⟨S2064x8, .f32⟩
  | 51 => ⟨S2048x8, .f32⟩
  | 52 => ⟨S2048x8, .f32⟩
  | 53 => ⟨S2048, .f32⟩
  | 54 => ⟨S8x2048x2048, .f32⟩
  | 55 => ⟨S_, .f32⟩
  | 56 => ⟨S8x2048, .f32⟩
  | 57 => ⟨S8x2048x1, .f32⟩
  | 58 => ⟨S_, .f32⟩
  | 59 => ⟨S8x2048x1, .f32⟩
  | 60 => ⟨S8x2048x1, .f32⟩
  | 61 => ⟨S_, .f32⟩
  | 62 => ⟨S8x2048x1, .f32⟩
  | 63 => ⟨S8x2048x1, .f32⟩
  | 64 => ⟨S8x2048x1, .f32⟩
  | 65 => ⟨S8x2048x2048, .f32⟩
  | 66 => ⟨S8x2048x2048, .f32⟩
  | 67 => ⟨S1x1x2048, .f32⟩
  | 68 => ⟨S8x2048x2048, .f32⟩
  | 69 => ⟨S8x2048x2048, .f32⟩
  | 70 => ⟨S2048x9808, .f32⟩
  | 71 => ⟨S8x2048x9808, .f32⟩
  | 72 => ⟨S8x2048x1024, .f32⟩
  | 73 => ⟨S8x2048x8x128, .f32⟩
  | 74 => ⟨S128, .f32⟩
  | 75 => ⟨S8x2048x8x128, .f32⟩
  | 76 => ⟨S_, .f32⟩
  | 77 => ⟨S8x2048x8, .f32⟩
  | 78 => ⟨S8x2048x8x1, .f32⟩
  | 79 => ⟨S_, .f32⟩
  | 80 => ⟨S8x2048x8x1, .f32⟩
  | 81 => ⟨S8x2048x8x1, .f32⟩
  | 82 => ⟨S_, .f32⟩
  | 83 => ⟨S8x2048x8x1, .f32⟩
  | 84 => ⟨S8x2048x8x1, .f32⟩
  | 85 => ⟨S8x2048x8x1, .f32⟩
  | 86 => ⟨S8x2048x8x128, .f32⟩
  | 87 => ⟨S8x2048x8x128, .f32⟩
  | 88 => ⟨S1x1x1x128, .f32⟩
  | 89 => ⟨S8x2048x8x128, .f32⟩
  | 90 => ⟨S8x2048x8x128, .f32⟩
  | 91 => ⟨S8x2048x8x16, .f32⟩
  | 92 => ⟨S8x2048x8x16, .f32⟩
  | 93 => ⟨S1x2048x1x16, .f32⟩
  | 94 => ⟨S1x2048x1x16, .f32⟩
  | 95 => ⟨S8x2048x8x16, .f32⟩
  | 96 => ⟨S8x2048x8x16, .f32⟩
  | 97 => ⟨S8x2048x8x16, .f32⟩
  | 98 => ⟨S8x2048x8x16, .f32⟩
  | 99 => ⟨S8x2048x8x16, .f32⟩
  | 100 => ⟨S8x2048x8x16, .f32⟩
  | 101 => ⟨S8x2048x8x16, .f32⟩
  | 102 => ⟨S8x2048x8x16, .f32⟩
  | 103 => ⟨S8x2048x8x16, .f32⟩
  | 104 => ⟨S8x2048x8x16, .f32⟩
  | 105 => ⟨S8x2048x8x96, .f32⟩
  | 106 => ⟨S8x2048x8x128, .f32⟩
  | 107 => ⟨S8x2048x256, .f32⟩
  | 108 => ⟨S8x2048x2x128, .f32⟩
  | 109 => ⟨S128, .f32⟩
  | 110 => ⟨S8x2048x2x128, .f32⟩
  | 111 => ⟨S_, .f32⟩
  | 112 => ⟨S8x2048x2, .f32⟩
  | 113 => ⟨S8x2048x2x1, .f32⟩
  | 114 => ⟨S_, .f32⟩
  | 115 => ⟨S8x2048x2x1, .f32⟩
  | 116 => ⟨S8x2048x2x1, .f32⟩
  | 117 => ⟨S_, .f32⟩
  | 118 => ⟨S8x2048x2x1, .f32⟩
  | 119 => ⟨S8x2048x2x1, .f32⟩
  | 120 => ⟨S8x2048x2x1, .f32⟩
  | 121 => ⟨S8x2048x2x128, .f32⟩
  | 122 => ⟨S8x2048x2x128, .f32⟩
  | 123 => ⟨S1x1x1x128, .f32⟩
  | 124 => ⟨S8x2048x2x128, .f32⟩
  | 125 => ⟨S8x2048x2x128, .f32⟩
  | 126 => ⟨S8x2048x2x16, .f32⟩
  | 127 => ⟨S8x2048x2x16, .f32⟩
  | _ => ⟨S8x2048x2048, .f32⟩

abbrev hbmTy0_1 (i : Nat) : BufTy := match i % 128 with
  | 0 => ⟨S1x2048x1x16, .f32⟩
  | 1 => ⟨S1x2048x1x16, .f32⟩
  | 2 => ⟨S8x2048x2x16, .f32⟩
  | 3 => ⟨S8x2048x2x16, .f32⟩
  | 4 => ⟨S8x2048x2x16, .f32⟩
  | 5 => ⟨S8x2048x2x16, .f32⟩
  | 6 => ⟨S8x2048x2x16, .f32⟩
  | 7 => ⟨S8x2048x2x16, .f32⟩
  | 8 => ⟨S8x2048x2x16, .f32⟩
  | 9 => ⟨S8x2048x2x16, .f32⟩
  | 10 => ⟨S8x2048x2x16, .f32⟩
  | 11 => ⟨S8x2048x2x16, .f32⟩
  | 12 => ⟨S8x2048x2x96, .f32⟩
  | 13 => ⟨S8x2048x2x128, .f32⟩
  | 14 => ⟨S8x2048x256, .f32⟩
  | 15 => ⟨S8x2048x1024, .f32⟩
  | 16 => ⟨S8x2048x16x64, .f32⟩
  | 17 => ⟨S8x2048x16x8, .f32⟩
  | 18 => ⟨S8x2048x16x8, .f32⟩
  | 19 => ⟨S1x2048x1x8, .f32⟩
  | 20 => ⟨S1x2048x1x8, .f32⟩
  | 21 => ⟨S8x2048x16x8, .f32⟩
  | 22 => ⟨S8x2048x16x8, .f32⟩
  | 23 => ⟨S8x2048x16x8, .f32⟩
  | 24 => ⟨S8x2048x16x8, .f32⟩
  | 25 => ⟨S8x2048x16x8, .f32⟩
  | 26 => ⟨S8x2048x16x8, .f32⟩
  | 27 => ⟨S8x2048x16x8, .f32⟩
  | 28 => ⟨S8x2048x16x8, .f32⟩
  | 29 => ⟨S8x2048x16x8, .f32⟩
  | 30 => ⟨S8x2048x16x8, .f32⟩
  | 31 => ⟨S8x2048x16x48, .f32⟩
  | 32 => ⟨S8x2048x16x64, .f32⟩
  | 33 => ⟨S8x2048x64, .f32⟩
  | 34 => ⟨S8x2048x1x64, .f32⟩
  | 35 => ⟨S8x2048x1x8, .f32⟩
  | 36 => ⟨S8x2048x1x8, .f32⟩
  | 37 => ⟨S1x2048x1x8, .f32⟩
  | 38 => ⟨S1x2048x1x8, .f32⟩
  | 39 => ⟨S8x2048x1x8, .f32⟩
  | 40 => ⟨S8x2048x1x8, .f32⟩
  | 41 => ⟨S8x2048x1x8, .f32⟩
  | 42 => ⟨S8x2048x1x8, .f32⟩
  | 43 => ⟨S8x2048x1x8, .f32⟩
  | 44 => ⟨S8x2048x1x8, .f32⟩
  | 45 => ⟨S8x2048x1x8, .f32⟩
  | 46 => ⟨S8x2048x1x8, .f32⟩
  | 47 => ⟨S8x2048x1x8, .f32⟩
  | 48 => ⟨S8x2048x1x8, .f32⟩
  | 49 => ⟨S8x2048x1x48, .f32⟩
  | 50 => ⟨S8x2048x1x64, .f32⟩
  | 51 => ⟨S8x2048x64, .f32⟩
  | 52 => ⟨S8x2048x64, .f32⟩
  | 53 => ⟨S_, .f32⟩
  | 54 => ⟨S8x2048x8x128, .f32⟩
  | 55 => ⟨S8x2048x8x128, .f32⟩
  | 56 => ⟨S8x2048x128, .f32⟩
  | 57 => ⟨S8x2048x128, .f32⟩
  | 58 => ⟨S16384x1024, .f32⟩
  | 59 => ⟨S16384x1024, .bf16⟩
  | 60 => ⟨S16384x1024, .f32⟩
  | 61 => ⟨S16384x1024, .bf16⟩
  | 62 => ⟨S16384x256, .f32⟩
  | 63 => ⟨S16384x256, .bf16⟩
  | 64 => ⟨S16384x256, .f32⟩
  | 65 => ⟨S16384x256, .bf16⟩
  | 66 => ⟨S16384x128, .f32⟩
  | 67 => ⟨S16384x128, .bf16⟩
  | 68 => ⟨S16384x128, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_10 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_cst_14 : Ref sig .tc := ⟨.hbm, 114, rfl⟩
abbrev main_v94 : Ref sig .tc := ⟨.hbm, 115, rfl⟩
abbrev main_v95 : Ref sig .tc := ⟨.hbm, 116, rfl⟩
abbrev main_cst_15 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_cst_16 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩

abbrev nD : Nat := 1
abbrev τ : Topo := Topo.v7x

variable {F : FTy → Type} [FloatOps F]
-- ==== Proof.Rms.lean ====
module

public import Idealize.ShloMosaic.Lib.Pointwise

@[expose] public section

noncomputable section

open Idealize.ShloMosaic

namespace Layer

/-- One entry of a root-mean-square normalised row of 2048 numbers, with gain `g`: the entry times the reciprocal root
of the row's mean square plus the small constant, times the gain. -/
def rms2048 (x g : Fin 2048 → EReal) (k : Fin 2048) : EReal :=
  x k * Ideal.rsqrt (Ideal.div (∑ l : Fin 2048, x l * x l) (Ideal.ofBits .f32 0x45000000#32) + Ideal.ofBits .f32 0x358637BD#32) * g k

end Layer
-- ==== Proof.GateRef.lean ====
module

public import proofs.«01_k».proof.Proof.Rms
public import proofs.«01_k».proof.Proof.Gen.ReferenceIdeal.Run

@[expose] public section

set_option maxRecDepth 16384

noncomputable section

open Idealize.ShloMosaic Idealize.ShloMosaic.TcCoe

namespace Cert.ReferenceIdeal.Read
open Cert.ReferenceIdeal Cert.ReferenceIdeal.Gen

/-- The reference's normalised activations. -/
def normed (X : FVec Ideal S8x2048x2048 .f32) (G : FVec Ideal S1x2048 .f32) : FVec Ideal S8x2048x2048 .f32 :=
  mulf (mulf X (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf X X) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ G shapeCasts_S1x2048_S2048)))

/-- … read at batch `b`, position `s`, channel `k`. -/
theorem normed_apply (X : FVec Ideal S8x2048x2048 .f32) (G : FVec Ideal S1x2048 .f32) (b : Fin 8) (s k : Fin 2048) :
    normed X G (ix3 b s k) = Layer.rms2048 (fun l => X (ix3 b s l)) (fun l => G (ix2 0 l)) k := by
  pointwise [normed, Layer.rms2048]

/-- The reference's result over its arguments: the last 7168 columns of the projection. -/
def result (X : FVec Ideal S8x2048x2048 .f32) (G : FVec Ideal S1x2048 .f32)
    (W : FVec Ideal S1x2048x9808 .f32) : FVec Ideal S16384x7168 .bf16 :=
  truncf .bf16 (shapeCast _ (extractStridedSlice S8x2048x7168 ![0, 0, 2640] (Host.dotGeneral dot_S8x2048x2048_S2048x9808_S8x2048x9808_2_0_01_1_n_n none (normed X G) (shapeCast _ W shapeCasts_S1x2048x9808_S2048x9808)) slices_S8x2048x9808_S8x2048x7168_0_0_2640) shapeCasts_S8x2048x7168_S16384x7168) bitsLt_bf16_f32

/-- … read at row `r` (a position of a batch) and column `n`. -/
theorem result_apply (X : FVec Ideal S8x2048x2048 .f32) (G : FVec Ideal S1x2048 .f32)
    (W : FVec Ideal S1x2048x9808 .f32) (r : Fin 16384) (n : Fin 7168) :
    result X G W (ix2 r n) = ∑ k : Fin 2048,
      Layer.rms2048 (fun l => X (ix3 ⟨r.val / 2048, by omega⟩ ⟨r.val % 2048, by omega⟩ l)) (fun l => G (ix2 0 l)) k
        * W (ix3 0 k ⟨2640 + n.val, by omega⟩) := by
  pointwise [result, normed_apply]

end Cert.ReferenceIdeal.Read
-- ==== Proof.Gate.lean ====
module

public import proofs.«01_k».proof.Proof.Gen.KernelIdeal.Value
public import proofs.«01_k».proof.Proof.GateRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ)

theorem idx : ∀ t : Fin cfg0.N, win0_0.index t = ![t.val / 4, 0] ∧ win0_1.index t = ![0, 0]
    ∧ win0_2.index t = ![2640 + t.val % 4 * 1792, 0] ∧ win0_3.index t = ![t.val / 4, t.val % 4] :=
  (by decide +kernel : ∀ t : Fin grid0.N, _)

/-- What the body computes of one row block: its normalised rows. -/
theorem pay1_apply (x : Vec Ideal S1024x2048 .f32) (g : Vec Ideal S1x2048 .f32) (r : Fin 1024) (k : Fin 2048) :
    k0_pay1 (F := Ideal) x g (ix2 r k) = Layer.rms2048 (fun l => x (ix2 r l)) (fun l => g (ix2 0 l)) k := by
  pointwise [k0_pay1, Layer.rms2048]

/-- One entry of the block's product with the weight rows. -/
theorem pay2_apply (u : Vec Ideal S1024x2048 .bf16) (w : Vec Ideal S1792x2048 .bf16) (r : Fin 1024) (n : Fin 1792) :
    k0_pay2 (F := Ideal) u w (ix2 r n) = ∑ k : Fin 2048, u (ix2 r k) * w (ix2 n k) := by
  pointwise [k0_pay2]

/-- Where an entry of the weight block lies among the weight rows: the block's row offset is an element offset. -/
theorem embW (t : Fin cfg0.N) (y : S1792x2048.Idx) (a : Fin 2) :
    ((((View.whole main_v2).slice (win0_2.rect t)).emb y a : Fin _) : ℕ) = win0_2.index t a + y a :=
  ValueKit.view_emb_slice_whole_unit_val _ _ _ _ _ _

theorem blkX (c : Dev nD) (t : Fin cfg0.N) (b : ℕ) (hb : t.val / 4 = b) (r : Fin 1024) (l : Fin 2048) (h : b * 1024 + r.val < 16384) :
    iblk m c 0 t (ix2 r l) = m ((c : Thread nD τ).loc main_arg0) (ix3 ⟨(b * 1024 + r.val) / 2048, by omega⟩ ⟨(b * 1024 + r.val) % 2048, by omega⟩ l) := by
  subst hb
  blk_point [iblk, V, idx t]

theorem blkG (c : Dev nD) (t : Fin cfg0.N) (l : Fin 2048) :
    iblk m c 1 t (ix2 0 l) = m ((c : Thread nD τ).loc main_arg1) (ix2 0 l) := by
  blk_point [iblk, V, idx t]

theorem blkW (c : Dev nD) (t : Fin cfg0.N) (n : Fin 1792) (k : Fin 2048) (h : 2640 + (t.val % 4 * 1792 + n.val) < 9808) :
    iblk m c 2 t (ix2 n k) = m ((c : Thread nD τ).loc main_arg2) (ix3 0 k ⟨2640 + (t.val % 4 * 1792 + n.val), h⟩) := by
  blk_point [iblk, V, idx t]
  · exact (embW t (ix2 n k) 1).trans (by rw [(idx t).2.2.1]; show 0 + k.val = _; omega)
  · exact (embW t (ix2 n k) 0).trans (by rw [(idx t).2.2.1]; show 2640 + t.val % 4 * 1792 + n.val = _; omega)

/-- Grid points of the same row block hold the same rows. -/
theorem sameX (c : Dev nD) (t u : Fin cfg0.N) (h : t.val / 4 = u.val / 4) : iblk m c 0 t = iblk m c 0 u := by
  have hu : u.val < 64 := u.isLt
  funext y
  idx_vars y
  rw [blkX m c t _ h _ _ (by omega), blkX m c u _ rfl _ _ (by omega)]

/-- Every grid point holds the same gain. -/
theorem sameG (c : Dev nD) (t u : Fin cfg0.N) : iblk m c 1 t = iblk m c 1 u := by
  funext y
  idx_vars y
  obtain rfl : y0 = 0 := Subsingleton.elim _ _
  rw [blkG, blkG]

/-- The scratch holds the row block's normalised rows after every grid point. -/
theorem scratch (c : Dev nD) : ∀ (n : ℕ) (t : Fin cfg0.N), t.val = n →
    (outsAt0 m c t.val t.isLt).2 = k0_pay1 (iblk m c 0 t) (iblk m c 1 t) := by
  intro n
  induction n with
  | zero =>
    intro t h
    rw [outsAt0_A m c t (by rw [h])]
    frame_out
  | succ n ih =>
    intro t h
    by_cases h0 : t.val % 4 = 0
    · rw [outsAt0_A m c t h0]
      frame_out
    · have ht : t.val - 1 < cfg0.N := Nat.lt_of_le_of_lt (Nat.sub_le _ _) t.isLt
      have e := ih ⟨t.val - 1, ht⟩ (by show t.val - 1 = n; omega)
      rw [outsAt0_B m c t h0, sameX m c t ⟨t.val - 1, ht⟩ (by show t.val / 4 = (t.val - 1) / 4; omega),
        sameG m c t ⟨t.val - 1, ht⟩]
      exact e

/-- What a grid point leaves in its output block. -/
theorem pay (c : Dev nD) (t : Fin cfg0.N) :
    (outsAt0 m c t.val t.isLt).1 = k0_pay2 (k0_pay1 (iblk m c 0 t) (iblk m c 1 t)) (iblk m c 2 t) := by
  by_cases h0 : t.val % 4 = 0
  · rw [outsAt0_A m c t h0]
    frame_out
  · rw [outsAt0_B m c t h0]
    frame_out
    rw [read_unread_whole, scratch m c _ ⟨t.val - 1, Nat.lt_of_le_of_lt (Nat.sub_le _ _) t.isLt⟩ rfl,
      sameX m c t ⟨t.val - 1, by omega⟩ (by show t.val / 4 = (t.val - 1) / 4; omega), sameG m c t ⟨t.val - 1, by omega⟩]

/-- What a grid point leaves, entry by entry. -/
theorem point (c : Dev nD) (t : Fin cfg0.N) (r : Fin 1024) (n : Fin 1792) (h : t.val / 4 * 1024 + r.val < 16384)
    (h' : t.val % 4 * 1792 + n.val < 7168) :
    k0_pay2 (F := Ideal) (k0_pay1 (iblk m c 0 t) (iblk m c 1 t)) (iblk m c 2 t) (ix2 r n)
      = Cert.ReferenceIdeal.Read.result (m ((c : Thread nD τ).loc main_arg0)) (m ((c : Thread nD τ).loc main_arg1))
          (m ((c : Thread nD τ).loc main_arg2)) (ix2 ⟨t.val / 4 * 1024 + r.val, h⟩ ⟨t.val % 4 * 1792 + n.val, h'⟩) := by
  rw [pay2_apply, Cert.ReferenceIdeal.Read.result_apply]
  refine Finset.sum_congr rfl fun k _ => ?_
  rw [pay1_apply, blkW m c t n k (by omega)]
  simp only [blkX m c t _ rfl r _ h, blkG]

/-- The array the call returns is the reference's, at the arguments. -/
theorem final (c : Dev nD) : (dats m 0 c).arrAt 3 (cfgs 0).N
    = Cert.ReferenceIdeal.Read.result (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 64 := t.isLt
  blk_simp
  rw [after0_3, pay]
  idx_vars y
  refine (point m c t y0 y1 (by omega) (by omega)).trans (congrArg _ ?_)
  blk_ext [idx t]

end Cert.KernelIdeal.Value
-- ==== Proof.FfnRef.lean ====
module

public import proofs.«01_k».proof.Proof.Rms
public import proofs.«01_k».proof.Proof.Gen.Reference2Ideal.Run

@[expose] public section

set_option maxRecDepth 16384

noncomputable section

open Idealize.ShloMosaic Idealize.ShloMosaic.TcCoe

/-- One hidden value of a feed-forward half-step: the gate product through its sigmoid, times the other product. -/
def Layer.hidden (u wg wu : Fin 2048 → EReal) : EReal :=
  (∑ k, u k * wg k) * Ideal.logistic (∑ k, u k * wg k) * ∑ k, u k * wu k

/-- A half moved to the front of a product. -/
theorem Layer.half_front (a b h d : EReal) : a * (b * h) * d = h * (a * b * d) := by ac_rfl

theorem Layer.half_eq : Ideal.ofBits .f32 0x3F000000#32 = ((1 / 2 : ℝ) : EReal) := by
  simp [Ideal.ofBits, Ideal.ieee, -EReal.coe_mul]; norm_num

/-- A half goes into a finite sum, whatever the summands. -/
theorem Layer.half_sum {n : ℕ} (f : Fin n → EReal) :
    Ideal.ofBits .f32 0x3F000000#32 * ∑ i, f i = ∑ i, Ideal.ofBits .f32 0x3F000000#32 * f i := by
  rw [Layer.half_eq]
  refine Finset.induction_on Finset.univ (by simp) fun a s ha ih => ?_
  rw [Finset.sum_insert ha, Finset.sum_insert ha, ← ih]
  exact EReal.left_distrib_of_nonneg_of_ne_top (by norm_num) (EReal.coe_ne_top _) _ _

namespace Cert.Reference2Ideal.Read
open Cert.Reference2Ideal Cert.Reference2Ideal.Gen

/-- The reference's normalised activations. -/
def normed (X : FVec Ideal S8x2048x2048 .f32) (G : FVec Ideal S1x2048 .f32) : FVec Ideal S8x2048x2048 .f32 :=
  mulf (mulf X (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf X X) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ G shapeCasts_S1x2048_S2048)))

/-- … read at batch `b`, position `s`, channel `k`. -/
theorem normed_apply (X : FVec Ideal S8x2048x2048 .f32) (G : FVec Ideal S1x2048 .f32) (b : Fin 8) (s k : Fin 2048) :
    normed X G (ix3 b s k) = Layer.rms2048 (fun l => X (ix3 b s l)) (fun l => G (ix2 0 l)) k := by
  pointwise [normed, Layer.rms2048]

/-- The normalised activations through one of the two inner weights. -/
def inner (X : FVec Ideal S8x2048x2048 .f32) (G : FVec Ideal S1x2048 .f32) (W : FVec Ideal S1x2048x5632 .f32) :
    FVec Ideal S8x2048x5632 .f32 :=
  Host.dotGeneral dot_S8x2048x2048_S2048x5632_S8x2048x5632_2_0_01_1_n_n none (normed X G) (shapeCast _ W shapeCasts_S1x2048x5632_S2048x5632)

theorem inner_apply (X : FVec Ideal S8x2048x2048 .f32) (G : FVec Ideal S1x2048 .f32) (W : FVec Ideal S1x2048x5632 .f32)
    (b : Fin 8) (s : Fin 2048) (f : Fin 5632) :
    inner X G W (ix3 b s f) = ∑ k : Fin 2048, normed X G (ix3 b s k) * W (ix3 0 k f) := by
  pointwise [inner]

/-- The hidden layer. -/
def hidden (X : FVec Ideal S8x2048x2048 .f32) (G : FVec Ideal S1x2048 .f32) (Wg Wu : FVec Ideal S1x2048x5632 .f32) :
    FVec Ideal S8x2048x5632 .f32 :=
  mulf (mulf (inner X G Wg) (Host.divf (broadcastInDim S8x2048x5632 ![] bcast_S_S8x2048x5632 (constant S_ .f32 0x3F800000#32)) (addf (broadcastInDim S8x2048x5632 ![] bcast_S_S8x2048x5632 (constant S_ .f32 0x3F800000#32)) (Host.exp (Host.negf (inner X G Wg)))))) (inner X G Wu)

theorem hidden_apply (X : FVec Ideal S8x2048x2048 .f32) (G : FVec Ideal S1x2048 .f32) (Wg Wu : FVec Ideal S1x2048x5632 .f32)
    (b : Fin 8) (s : Fin 2048) (f : Fin 5632) :
    hidden X G Wg Wu (ix3 b s f)
      = Layer.hidden (fun k => Layer.rms2048 (fun l => X (ix3 b s l)) (fun l => G (ix2 0 l)) k)
          (fun k => Wg (ix3 0 k f)) (fun k => Wu (ix3 0 k f)) := by
  have e : hidden X G Wg Wu (ix3 b s f)
      = inner X G Wg (ix3 b s f) * Ideal.logistic (inner X G Wg (ix3 b s f)) * inner X G Wu (ix3 b s f) := by
    pointwise [hidden, Ideal.logistic]
  rw [e, inner_apply, inner_apply]
  simp only [normed_apply, Layer.hidden]

/-- The reference's result over its arguments. -/
def result (X : FVec Ideal S8x2048x2048 .f32) (G : FVec Ideal S1x2048 .f32) (Wg Wu : FVec Ideal S1x2048x5632 .f32)
    (Wd : FVec Ideal S1x5632x2048 .f32) : FVec Ideal S16384x2048 .f32 :=
  shapeCast _ (addf X (mulf (broadcastInDim S8x2048x2048 ![] bcast_S_S8x2048x2048 (constant S_ .f32 0x3F000000#32)) (Host.dotGeneral dot_S8x2048x5632_S5632x2048_S8x2048x2048_2_0_01_1_n_n none (hidden X G Wg Wu) (shapeCast _ Wd shapeCasts_S1x5632x2048_S5632x2048)))) shapeCasts_S8x2048x2048_S16384x2048

/-- … read at row `r` (a position of a batch) and channel `n`. -/
theorem result_apply (X : FVec Ideal S8x2048x2048 .f32) (G : FVec Ideal S1x2048 .f32) (Wg Wu : FVec Ideal S1x2048x5632 .f32)
    (Wd : FVec Ideal S1x5632x2048 .f32) (r : Fin 16384) (n : Fin 2048) :
    result X G Wg Wu Wd (ix2 r n)
      = X (ix3 ⟨r.val / 2048, by omega⟩ ⟨r.val % 2048, by omega⟩ n) + Ideal.ofBits .f32 0x3F000000#32 * ∑ f : Fin 5632,
          Layer.hidden (fun k => Layer.rms2048 (fun l => X (ix3 ⟨r.val / 2048, by omega⟩ ⟨r.val % 2048, by omega⟩ l)) (fun l => G (ix2 0 l)) k)
            (fun k => Wg (ix3 0 k f)) (fun k => Wu (ix3 0 k f)) * Wd (ix3 0 f n) := by
  pointwise [result, hidden_apply]

end Cert.Reference2Ideal.Read
-- ==== Proof.Ffn.lean ====
module

public import proofs.«01_k».proof.Proof.Gen.Kernel2Ideal.Value
public import proofs.«01_k».proof.Proof.FfnRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen

variable (m : (ℓ : Loc nD τ sig) → Buf (Elt Ideal) ℓ)

theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![t.val / 11, 0] :=
  (by decide +kernel : ∀ t : Fin grid0.N, _)

/-- The normalised rows of a row block. -/
theorem pay3_apply (x : Vec Ideal S1024x2048 .f32) (g : Vec Ideal S1x2048 .f32) (r : Fin 1024) (k : Fin 2048) :
    k0_pay3 (F := Ideal) x g (ix2 r k) = Layer.rms2048 (fun l => x (ix2 r l)) (fun l => g (ix2 0 l)) k := by
  pointwise [k0_pay3, k0_pay2, Layer.rms2048]

/-- What one grid point adds: half the hidden values of 512 hidden channels, through their rows of the outer weight. -/
theorem pay4_apply (wg wu : Vec Ideal S2048x512 .bf16) (wd : Vec Ideal S512x2048 .bf16) (u : Vec Ideal S1024x2048 .bf16)
    (r : Fin 1024) (n : Fin 2048) :
    k0_pay4 (F := Ideal) wg wu wd u (ix2 r n) = ∑ f : Fin 512, Ideal.ofBits .f32 0x3F000000#32 *
      (Layer.hidden (fun k => u (ix2 r k)) (fun k => wg (ix2 k f)) (fun k => wu (ix2 k f)) * wd (ix2 f n)) := by
  have e : k0_pay4 (F := Ideal) wg wu wd u (ix2 r n)
      = (∑ f : Fin 256, (∑ k : Fin 2048, u (ix2 r k) * wg (ix2 k ⟨f.val, by omega⟩))
            * Ideal.logistic (∑ k : Fin 2048, u (ix2 r k) * wg (ix2 k ⟨f.val, by omega⟩))
            * ((∑ k : Fin 2048, u (ix2 r k) * wu (ix2 k ⟨f.val, by omega⟩)) * Ideal.ofBits .f32 0x3F000000#32) * wd (ix2 ⟨f.val, by omega⟩ n))
        + ∑ f : Fin 256, (∑ k : Fin 2048, u (ix2 r k) * wg (ix2 k ⟨256 + f.val, by omega⟩))
            * Ideal.logistic (∑ k : Fin 2048, u (ix2 r k) * wg (ix2 k ⟨256 + f.val, by omega⟩))
            * ((∑ k : Fin 2048, u (ix2 r k) * wu (ix2 k ⟨256 + f.val, by omega⟩)) * Ideal.ofBits .f32 0x3F000000#32) * wd (ix2 ⟨256 + f.val, by omega⟩ n) := by
    pointwise [k0_pay4]
  rw [e, Fin.sum_univ_add (a := 256) (b := 256)]
  refine congrArg₂ (· + ·) (Finset.sum_congr rfl fun f _ => ?_) (Finset.sum_congr rfl fun f _ => ?_)
  · exact Layer.half_front _ _ _ _
  · exact Layer.half_front _ _ _ _

theorem blkX (c : Dev nD) (t : Fin cfg0.N) (b : ℕ) (hb : t.val / 11 = b) (r : Fin 1024) (l : Fin 2048) (h : b * 1024 + r.val < 16384) :
    iblk m c 0 t (ix2 r l) = m ((c : Thread nD τ).loc main_arg0) (ix3 ⟨(b * 1024 + r.val) / 2048, by omega⟩ ⟨(b * 1024 + r.val) % 2048, by omega⟩ l) := by
  subst hb
  blk_point [iblk, V, idx t]

theorem blkG (c : Dev nD) (t : Fin cfg0.N) (l : Fin 2048) :
    iblk m c 1 t (ix2 0 l) = m ((c : Thread nD τ).loc main_arg1) (ix2 0 l) := by
  blk_point [iblk, V, idx t]

theorem blkWg (c : Dev nD) (t : Fin cfg0.N) (k : Fin 2048) (f : Fin 512) (h : t.val % 11 * 512 + f.val < 5632) :
    iblk m c 2 t (ix2 k f) = m ((c : Thread nD τ).loc main_arg2) (ix3 0 k ⟨t.val % 11 * 512 + f.val, h⟩) := by
  blk_point [iblk, V, idx t]

theorem blkWu (c : Dev nD) (t : Fin cfg0.N) (k : Fin 2048) (f : Fin 512) (h : t.val % 11 * 512 + f.val < 5632) :
    iblk m c 3 t (ix2 k f) = m ((c : Thread nD τ).loc main_arg3) (ix3 0 k ⟨t.val % 11 * 512 + f.val, h⟩) := by
  blk_point [iblk, V, idx t]

theorem blkWd (c : Dev nD) (t : Fin cfg0.N) (f : Fin 512) (n : Fin 2048) (h : t.val % 11 * 512 + f.val < 5632) :
    iblk m c 4 t (ix2 f n) = m ((c : Thread nD τ).loc main_arg4) (ix3 0 ⟨t.val % 11 * 512 + f.val, h⟩ n) := by
  blk_point [iblk, V, idx t]

/-- Grid points of the same row block hold the same rows. -/
theorem sameX (c : Dev nD) (t u : Fin cfg0.N) (h : t.val / 11 = u.val / 11) : iblk m c 0 t = iblk m c 0 u := by
  have hu : u.val < 176 := u.isLt
  funext y
  idx_vars y
  rw [blkX m c t _ h _ _ (by omega), blkX m c u _ rfl _ _ (by omega)]

/-- Every grid point holds the same gain. -/
theorem sameG (c : Dev nD) (t u : Fin cfg0.N) : iblk m c 1 t = iblk m c 1 u := by
  funext y
  idx_vars y
  obtain rfl : y0 = 0 := Subsingleton.elim _ _
  rw [blkG, blkG]

/-- The scratch holds the row block's normalised rows after every grid point. -/
theorem scratch (c : Dev nD) : ∀ (n : ℕ) (t : Fin cfg0.N), t.val = n →
    (outsAt0 m c t.val t.isLt).2 = k0_pay3 (iblk m c 0 t) (iblk m c 1 t) := by
  intro n
  induction n with
  | zero =>
    intro t h
    rw [outsAt0_A m c t (by rw [h])]
    frame_out
  | succ n ih =>
    intro t h
    by_cases h0 : t.val % 11 = 0
    · rw [outsAt0_A m c t h0]
      frame_out
    · have ht : t.val - 1 < cfg0.N := Nat.lt_of_le_of_lt (Nat.sub_le _ _) t.isLt
      have e := ih ⟨t.val - 1, ht⟩ (by show t.val - 1 = n; omega)
      rw [outsAt0_B m c t h0, sameX m c t ⟨t.val - 1, ht⟩ (by show t.val / 11 = (t.val - 1) / 11; omega),
        sameG m c t ⟨t.val - 1, ht⟩]
      exact e

/-- What grid point `t` adds to its output block. -/
def part (c : Dev nD) (t : Fin cfg0.N) : FVec Ideal S1024x2048 .f32 :=
  k0_pay4 (iblk m c 2 t) (iblk m c 3 t) (iblk m c 4 t) (k0_pay3 (iblk m c 0 t) (iblk m c 1 t))

/-- The rows a grid point starts from. -/
def rows (c : Dev nD) (t : Fin cfg0.N) : FVec Ideal S1024x2048 .f32 := iblk m c 0 t

theorem add_apply (a b : FVec Ideal S1024x2048 .f32) (r : Fin 1024) (n : Fin 2048) :
    k0_pay1 a (k0_pay5 b) (ix2 r n) = b (ix2 r n) + a (ix2 r n) := by
  pointwise [k0_pay1, k0_pay5]

theorem copy_eq (x : FVec Ideal S1024x2048 .f32) : k0_pay2 x = x := by
  funext y
  idx_vars y
  pointwise [k0_pay2]

/-- The first grid point of a row block leaves the rows and its part. -/
theorem stepA (c : Dev nD) (t : Fin cfg0.N) (h0 : t.val % 11 = 0) (i : S1024x2048.Idx) :
    (outsAt0 m c t.val t.isLt).1 i = rows m c t i + part m c t i := by
  idx_vars i
  rw [outsAt0_A m c t h0]
  frame_out
  exact (add_apply _ _ _ _).trans (by rw [copy_eq]; rfl)

/-- Every later one adds its part. -/
theorem stepB (c : Dev nD) (t : Fin cfg0.N) (h0 : ¬t.val % 11 = 0) (i : S1024x2048.Idx) :
    (outsAt0 m c t.val t.isLt).1 i
      = (outsAt0 m c (t.val - 1) (Nat.lt_of_le_of_lt (Nat.sub_le _ _) t.isLt)).1 i + part m c t i := by
  have ht : t.val - 1 < cfg0.N := Nat.lt_of_le_of_lt (Nat.sub_le _ _) t.isLt
  idx_vars i
  rw [outsAt0_B m c t h0]
  frame_out
  rw [read_unread_whole, scratch m c _ ⟨t.val - 1, ht⟩ rfl,
    ← sameX m c t ⟨t.val - 1, ht⟩ (by show t.val / 11 = (t.val - 1) / 11; omega), ← sameG m c t ⟨t.val - 1, ht⟩]
  exact add_apply _ _ _ _

/-- One summand of the outer product: hidden channel `f` of row `r`, through its row of the outer weight. -/
def term (c : Dev nD) (r : Fin 16384) (n : Fin 2048) (f : Fin 5632) : EReal :=
  Layer.hidden (fun k => Layer.rms2048
      (fun l => m ((c : Thread nD τ).loc main_arg0) (ix3 ⟨r.val / 2048, by omega⟩ ⟨r.val % 2048, by omega⟩ l))
      (fun l => m ((c : Thread nD τ).loc main_arg1) (ix2 0 l)) k)
    (fun k => m ((c : Thread nD τ).loc main_arg2) (ix3 0 k f)) (fun k => m ((c : Thread nD τ).loc main_arg3) (ix3 0 k f))
    * m ((c : Thread nD τ).loc main_arg4) (ix3 0 f n)

/-- A grid point's part, entry by entry: half of 512 summands. -/
theorem part_apply (c : Dev nD) (t : Fin cfg0.N) (b j : ℕ) (hb : t.val / 11 = b) (hj : t.val % 11 = j) (hj' : j < 11)
    (r : Fin 1024) (n : Fin 2048) (h : b * 1024 + r.val < 16384) :
    part m c t (ix2 r n) = ∑ f : Fin 512, Ideal.ofBits .f32 0x3F000000#32
      * term m c ⟨b * 1024 + r.val, h⟩ n ⟨j * 512 + f.val, by omega⟩ := by
  subst hj
  unfold part
  rw [pay4_apply]
  refine Finset.sum_congr rfl fun f _ => ?_
  simp only [term, pay3_apply, blkX m c t _ hb r _ h, blkG, blkWg m c t _ f (by omega), blkWu m c t _ f (by omega),
    blkWd m c t f n (by omega)]

theorem rows_apply (c : Dev nD) (t : Fin cfg0.N) (b : ℕ) (hb : t.val / 11 = b) (r : Fin 1024) (n : Fin 2048)
    (h : b * 1024 + r.val < 16384) :
    rows m c t (ix2 r n)
      = m ((c : Thread nD τ).loc main_arg0) (ix3 ⟨(b * 1024 + r.val) / 2048, by omega⟩ ⟨(b * 1024 + r.val) % 2048, by omega⟩ n) :=
  blkX m c t b hb r n h

/-- What the last grid point of a row block leaves: the rows and half of all the summands. -/
theorem point (c : Dev nD) (t : Fin cfg0.N) (ht : t.val % 11 = 11 - 1) (r : Fin 1024) (n : Fin 2048)
    (h : t.val / 11 * 1024 + r.val < 16384) :
    (outsAt0 m c t.val t.isLt).1 (ix2 r n)
      = Cert.Reference2Ideal.Read.result (m ((c : Thread nD τ).loc main_arg0)) (m ((c : Thread nD τ).loc main_arg1))
          (m ((c : Thread nD τ).loc main_arg2)) (m ((c : Thread nD τ).loc main_arg3)) (m ((c : Thread nD τ).loc main_arg4))
          (ix2 ⟨t.val / 11 * 1024 + r.val, h⟩ n) := by
  have ht' : t.val < 176 := t.isLt
  have hN : ∀ s : Fin 11, 11 * (t.val / 11) + s.val < cfg0.N := fun s => by show _ < 176; omega
  rw [Pipeline.eq_sum_fin_of_reset_step_apply_of_flush (fun n h => (outsAt0 m c n h).1) 11 (fun _ => 0)
    (fun t i => (if t.val % 11 = 0 then rows m c t i else 0) + part m c t i)
    (fun t h0 i => by rw [stepA m c t h0, if_pos h0, zero_add])
    (fun t h0 i => by rw [stepB m c t h0, if_neg h0, zero_add]) t ht, zero_add, Finset.sum_add_distrib,
    Cert.Reference2Ideal.Read.result_apply]
  refine congrArg₂ (· + ·) ?_ ?_
  · rw [Finset.sum_eq_single (0 : Fin 11)]
    · rw [if_pos (by show (11 * (t.val / 11) + 0) % 11 = 0; omega)]
      exact rows_apply m c _ (t.val / 11) (by show (11 * (t.val / 11) + 0) / 11 = _; omega) r n h
    · intro s _ hs
      have : s.val ≠ 0 := fun e => hs (Fin.ext e)
      exact if_neg (by show ¬(11 * (t.val / 11) + s.val) % 11 = 0; omega)
    · intro hn
      exact absurd (Finset.mem_univ _) hn
  · refine Eq.trans ?_ (Layer.half_sum (term m c ⟨t.val / 11 * 1024 + r.val, h⟩ n)).symm
    rw [← Fin.sum_mul_add_congr (L := 5632) (S := 11) (n := 512)
      (F := fun s f => Ideal.ofBits .f32 0x3F000000#32 * term m c ⟨t.val / 11 * 1024 + r.val, h⟩ n ⟨s.val * 512 + f.val, by omega⟩)
      (f := fun f => Ideal.ofBits .f32 0x3F000000#32 * term m c ⟨t.val / 11 * 1024 + r.val, h⟩ n f)
      (fun s k hl => rfl)]
    refine Finset.sum_congr rfl fun s _ => ?_
    exact part_apply m c ⟨11 * (t.val / 11) + s.val, hN s⟩ (t.val / 11) s.val (by show (11 * (t.val / 11) + s.val) / 11 = _; omega)
      (by show (11 * (t.val / 11) + s.val) % 11 = _; omega) s.isLt r n h

/-- The array the call returns is the reference's, at the arguments. -/
theorem final (c : Dev nD) : (dats m 0 c).arrAt 5 (cfgs 0).N
    = Cert.Reference2Ideal.Read.result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 176 := t.isLt
  blk_simp
  rw [after0_5]
  idx_vars y
  refine (point m c t ((flush0_5 t).mp hf) y0 y1 (by omega)).trans (congrArg _ ?_)
  blk_ext [idx t]

end Cert.Kernel2Ideal.Value
-- ==== Proof.MergeRef.lean ====
module

public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe

/-- One value of the short convolution: three taps, the oldest first, and the bias. -/
def Layer.taps (w : Fin 3 → EReal) (b x2 x1 x0 : EReal) : EReal := w 0 * x2 + w 1 * x1 + w 2 * x0 + b

namespace Cert.Reference3Ideal.Read
open Cert.Reference3Ideal Cert.Reference3Ideal.Gen

/-- The gate projection's rows, batch by batch. -/
def rows (Z : FVec Ideal S16384x7168 .bf16) : FVec Ideal S8x2048x7168 .f32 :=
  shapeCast _ (extf .f32 Z bitsLt_bf16_f32) shapeCasts_S16384x7168_S8x2048x7168

theorem rows_apply (Z : FVec Ideal S16384x7168 .bf16) (b : Fin 8) (s : Fin 2048) (n : Fin 7168) :
    rows Z (ix3 b s n) = Z (ix2 ⟨b.val * 2048 + s.val, by omega⟩ n) := by
  pointwise [rows]

/-- The meta rows of the gate projection, the same for every batch. -/
def metas (M : FVec Ideal S16x3072 .bf16) : FVec Ideal S8x16x3072 .f32 :=
  broadcastInDim S8x16x3072 ![0, 1, 2] bcast_S1x16x3072_S8x16x3072_0_1_2 (broadcastInDim S1x16x3072 ![1, 2] bcast_S16x3072_S1x16x3072_1_2 (extf .f32 M bitsLt_bf16_f32))

/-- The convolution's input: the gated meta rows, then the gated rows of the sequence. -/
def convIn (Z : FVec Ideal S16384x7168 .bf16) (M : FVec Ideal S16x3072 .bf16) : FVec Ideal S8x2064x1024 .f32 :=
  concatenate S8x2064x1024 1 [⟨S8x16x1024, (mulf (extractStridedSlice S8x16x1024 ![0, 0, 2048] (metas M) slices_S8x16x3072_S8x16x1024_0_0_2048) (extractStridedSlice S8x16x1024 ![0, 0, 0] (metas M) slices_S8x16x3072_S8x16x1024_0_0_0))⟩, ⟨S8x2048x1024, (mulf (extractStridedSlice S8x2048x1024 ![0, 0, 2048] (rows Z) slices_S8x2048x7168_S8x2048x1024_0_0_2048) (extractStridedSlice S8x2048x1024 ![0, 0, 0] (rows Z) slices_S8x2048x7168_S8x2048x1024_0_0_0))⟩] concatenates_S8x16x1024_S8x2048x1024_S8x2064x1024_d1

theorem convIn_meta (Z : FVec Ideal S16384x7168 .bf16) (M : FVec Ideal S16x3072 .bf16) (b : Fin 8) (p : Fin 2064)
    (k : Fin 1024) (q : Fin 16) (h : p.val = q.val) :
    convIn Z M (ix3 b p k) = M (ix2 q ⟨2048 + k.val, by omega⟩) * M (ix2 q ⟨k.val, by omega⟩) := by
  obtain ⟨p, hp⟩ := p
  obtain rfl : p = q.val := h
  pointwise [convIn, metas]

theorem convIn_seq (Z : FVec Ideal S16384x7168 .bf16) (M : FVec Ideal S16x3072 .bf16) (b : Fin 8) (p : Fin 2064)
    (k : Fin 1024) (s : Fin 2048) (h : p.val = 16 + s.val) (j : Fin 16384) (hj : j.val = b.val * 2048 + s.val) :
    convIn Z M (ix3 b p k) = Z (ix2 j ⟨2048 + k.val, by omega⟩) * Z (ix2 j ⟨k.val, by omega⟩) := by
  obtain ⟨p, hp⟩ := p
  obtain ⟨j, hj'⟩ := j
  obtain rfl : p = 16 + s.val := h
  obtain rfl : j = b.val * 2048 + s.val := hj
  pointwise [convIn, rows_apply]

/-- The convolution's input with two rows of zeros in front. -/
def padded (C : FVec Ideal S8x2064x1024 .f32) : FVec Ideal S8x2066x1024 .f32 :=
  pad S8x2066x1024 ![0, 2, 0] ![0, 0, 0] ![0, 0, 0] C (sitofp .f32 (constantI S_ 32 0#32)) pads_S8x2064x1024_S8x2066x1024_000_200_000 h_S_

theorem padded_apply (C : FVec Ideal S8x2064x1024 .f32) (b : Fin 8) (p : Fin 2066) (q : Fin 2064) (k : Fin 1024)
    (h : p.val = q.val + 2) : padded C (ix3 b p k) = C (ix3 b q k) := by
  obtain ⟨p, hp⟩ := p
  obtain rfl : p = q.val + 2 := h
  pointwise [padded]
  rw [dif_pos (by omega)]
  exact congrArg (fun x => C (ix3 b x k)) (Fin.ext (Nat.add_sub_cancel _ _))

/-- The short convolution's values at the sequence's positions. -/
def conv (C : FVec Ideal S8x2064x1024 .f32) (W : FVec Ideal S1x3x1024 .f32) (B : FVec Ideal S1x1024 .f32) :
    FVec Ideal S8x2048x1024 .f32 :=
  extractStridedSlice S8x2048x1024 ![0, 16, 0] (addf (addf (addf (mulf (broadcastInDim S8x2064x1024 ![0, 1, 2] bcast_S1x1x1024_S8x2064x1024_0_1_2 (broadcastInDim S1x1x1024 ![2] bcast_S1024_S1x1x1024_2 (shapeCast _ (extractStridedSlice S1x1024 ![0, 0] (shapeCast _ W shapeCasts_S1x3x1024_S3x1024) slices_S3x1024_S1x1024_0_0) shapeCasts_S1x1024_S1024))) (extractStridedSlice S8x2064x1024 ![0, 0, 0] (padded C) slices_S8x2066x1024_S8x2064x1024_0_0_0)) (mulf (broadcastInDim S8x2064x1024 ![0, 1, 2] bcast_S1x1x1024_S8x2064x1024_0_1_2 (broadcastInDim S1x1x1024 ![2] bcast_S1024_S1x1x1024_2 (shapeCast _ (extractStridedSlice S1x1024 ![1, 0] (shapeCast _ W shapeCasts_S1x3x1024_S3x1024) slices_S3x1024_S1x1024_1_0) shapeCasts_S1x1024_S1024))) (extractStridedSlice S8x2064x1024 ![0, 1, 0] (padded C) slices_S8x2066x1024_S8x2064x1024_0_1_0))) (mulf (broadcastInDim S8x2064x1024 ![0, 1, 2] bcast_S1x1x1024_S8x2064x1024_0_1_2 (broadcastInDim S1x1x1024 ![2] bcast_S1024_S1x1x1024_2 (shapeCast _ (extractStridedSlice S1x1024 ![2, 0] (shapeCast _ W shapeCasts_S1x3x1024_S3x1024) slices_S3x1024_S1x1024_2_0) shapeCasts_S1x1024_S1024))) (extractStridedSlice S8x2064x1024 ![0, 2, 0] (padded C) slices_S8x2066x1024_S8x2064x1024_0_2_0))) (broadcastInDim S8x2064x1024 ![0, 1, 2] bcast_S1x1x1024_S8x2064x1024_0_1_2 (broadcastInDim S1x1x1024 ![2] bcast_S1024_S1x1x1024_2 (shapeCast _ B shapeCasts_S1x1024_S1024)))) slices_S8x2064x1024_S8x2048x1024_0_16_0

theorem conv_apply (C : FVec Ideal S8x2064x1024 .f32) (W : FVec Ideal S1x3x1024 .f32) (B : FVec Ideal S1x1024 .f32)
    (b : Fin 8) (s : Fin 2048) (k : Fin 1024) :
    conv C W B (ix3 b s k) = Layer.taps (fun j => W (ix3 0 j k)) (B (ix2 0 k)) (C (ix3 b ⟨s.val + 14, by omega⟩ k))
      (C (ix3 b ⟨s.val + 15, by omega⟩ k)) (C (ix3 b ⟨s.val + 16, by omega⟩ k)) := by
  rw [← padded_apply C b ⟨16 + s.val, by omega⟩ ⟨s.val + 14, by omega⟩ k (by show 16 + s.val = s.val + 14 + 2; omega),
    ← padded_apply C b ⟨1 + (16 + s.val), by omega⟩ ⟨s.val + 15, by omega⟩ k (by show 1 + (16 + s.val) = s.val + 15 + 2; omega),
    ← padded_apply C b ⟨2 + (16 + s.val), by omega⟩ ⟨s.val + 16, by omega⟩ k (by show 2 + (16 + s.val) = s.val + 16 + 2; omega)]
  pointwise [conv, Layer.taps]

/-- The convolution branch. -/
def branch (Z : FVec Ideal S16384x7168 .bf16) (M : FVec Ideal S16x3072 .bf16) (W : FVec Ideal S1x3x1024 .f32) (B : FVec Ideal S1x1024 .f32)
    (Wc : FVec Ideal S1x1024x2048 .f32) : FVec Ideal S8x2048x2048 .f32 :=
  Host.dotGeneral dot_S8x2048x1024_S1024x2048_S8x2048x2048_2_0_01_1_n_n none (mulf (extractStridedSlice S8x2048x1024 ![0, 0, 1024] (rows Z) slices_S8x2048x7168_S8x2048x1024_0_0_1024) (conv (convIn Z M) W B)) (shapeCast _ Wc shapeCasts_S1x1024x2048_S1024x2048)

theorem branch_apply (Z : FVec Ideal S16384x7168 .bf16) (M : FVec Ideal S16x3072 .bf16) (W : FVec Ideal S1x3x1024 .f32) (B : FVec Ideal S1x1024 .f32)
    (Wc : FVec Ideal S1x1024x2048 .f32) (b : Fin 8) (s n : Fin 2048) :
    branch Z M W B Wc (ix3 b s n) = ∑ k : Fin 1024, rows Z (ix3 b s ⟨1024 + k.val, by omega⟩) * conv (convIn Z M) W B (ix3 b s k) * Wc (ix3 0 k n) := by
  pointwise [branch]

/-- The attention branch. -/
def attn (A : FVec Ideal S8x2048x1024 .bf16) (Wa : FVec Ideal S1x1024x2048 .f32) : FVec Ideal S8x2048x2048 .f32 :=
  Host.dotGeneral dot_S8x2048x1024_S1024x2048_S8x2048x2048_2_0_01_1_n_n none (extf .f32 A bitsLt_bf16_f32) (shapeCast _ Wa shapeCasts_S1x1024x2048_S1024x2048)

theorem attn_apply (A : FVec Ideal S8x2048x1024 .bf16) (Wa : FVec Ideal S1x1024x2048 .f32) (b : Fin 8) (s n : Fin 2048) :
    attn A Wa (ix3 b s n) = ∑ k : Fin 1024, A (ix3 b s k) * Wa (ix3 0 k n) := by
  pointwise [attn]

/-- The two branches through their gates. -/
def merged (Z : FVec Ideal S16384x7168 .bf16) (ya yc : FVec Ideal S8x2048x2048 .f32) : FVec Ideal S8x2048x2048 .f32 :=
  addf (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 3072] (rows Z) slices_S8x2048x7168_S8x2048x2048_0_0_3072))))) ya) (mulf (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 5120] (rows Z) slices_S8x2048x7168_S8x2048x2048_0_0_5120))))) yc)

theorem merged_apply (Z : FVec Ideal S16384x7168 .bf16) (ya yc : FVec Ideal S8x2048x2048 .f32) (b : Fin 8) (s n : Fin 2048) :
    merged Z ya yc (ix3 b s n) = Ideal.logistic (rows Z (ix3 b s ⟨3072 + n.val, by omega⟩)) * ya (ix3 b s n)
      + Ideal.logistic (rows Z (ix3 b s ⟨5120 + n.val, by omega⟩)) * yc (ix3 b s n) := by
  pointwise [merged, Ideal.logistic]

/-- The reference's result over its arguments. -/
def result (X : FVec Ideal S8x2048x2048 .f32) (A : FVec Ideal S8x2048x1024 .bf16) (Z : FVec Ideal S16384x7168 .bf16)
    (M : FVec Ideal S16x3072 .bf16) (W : FVec Ideal S1x3x1024 .f32) (B : FVec Ideal S1x1024 .f32)
    (Wa Wc : FVec Ideal S1x1024x2048 .f32) (Wo : FVec Ideal S1x2048x2048 .f32) : FVec Ideal S16384x2048 .f32 :=
  shapeCast _ (addf X (Host.dotGeneral dot_S8x2048x2048_S2048x2048_S8x2048x2048_2_0_01_1_n_n none (merged Z (attn A Wa) (branch Z M W B Wc)) (shapeCast _ Wo shapeCasts_S1x2048x2048_S2048x2048))) shapeCasts_S8x2048x2048_S16384x2048

/-- … read at position `s` of batch `b`, channel `n`. -/
theorem result_apply (X : FVec Ideal S8x2048x2048 .f32) (A : FVec Ideal S8x2048x1024 .bf16) (Z : FVec Ideal S16384x7168 .bf16)
    (M : FVec Ideal S16x3072 .bf16) (W : FVec Ideal S1x3x1024 .f32) (B : FVec Ideal S1x1024 .f32)
    (Wa Wc : FVec Ideal S1x1024x2048 .f32) (Wo : FVec Ideal S1x2048x2048 .f32) (b : Fin 8) (s n : Fin 2048) (j : Fin 16384)
    (hj : j.val = b.val * 2048 + s.val) :
    result X A Z M W B Wa Wc Wo (ix2 j n)
      = X (ix3 b s n) + ∑ k : Fin 2048, merged Z (attn A Wa) (branch Z M W B Wc) (ix3 b s k) * Wo (ix3 0 k n) := by
  obtain ⟨j, hj'⟩ := j
  obtain rfl : j = b.val * 2048 + s.val := hj
  pointwise [result]

/-- What the reference's run leaves is that result. -/
theorem run_eq (m : (ℓ : Loc nD τ sig) → Buf (Elt Ideal) ℓ) (c : Dev nD) :
    Value.res_main_v66 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := rfl

end Cert.Reference3Ideal.Read
-- ==== Proof.Merge.lean ====
module

public import proofs.«01_k».proof.Proof.Gen.Kernel3Ideal.Value
public import proofs.«01_k».proof.Proof.MergeRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 1] ∧ win0_4.index t = ![t.val, 2]
    ∧ win0_5.index t = ![t.val, 3] ∧ win0_6.index t = ![t.val, 4] ∧ win0_7.index t = ![t.val, 5] ∧ win0_8.index t = ![t.val, 6]
    ∧ win0_9.index t = ![t.val * 16 - 1, 0] ∧ win0_10.index t = ![t.val * 16 - 1, 2]
    ∧ win0_11.index t = ![0, 0] ∧ win0_12.index t = ![0, 2] ∧ win0_13.index t = ![0, 0] ∧ win0_14.index t = ![0, 0]
    ∧ win0_15.index t = ![0, 0] ∧ win0_16.index t = ![0, 0] ∧ win0_17.index t = ![0, 0] ∧ win0_18.index t = ![t.val, 0] :=
  (by decide +kernel : ∀ t : Fin grid0.N, _)

theorem coord : ∀ t : Fin cfg0.N, (grid0.coords t 0).val = t.val :=
  (by decide +kernel : ∀ t : Fin grid0.N, _)

/-- Whether a tile is the first of its sequence, as the body computes it. -/
def isFirst (i : grid0.Coords) : BitVec 1 :=
  Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32

theorem isFirst_eq : ∀ t : Fin cfg0.N, isFirst (grid0.coords t) = if t.val % 8 = 0 then 1#1 else 0#1 :=
  (by decide +kernel : ∀ t : Fin grid0.N, _)

/-- The sixteen gated rows in front of a tile: the meta rows at a sequence's first tile, and else the rows before it. -/
theorem pay3_first (t : Fin cfg0.N) (h : t.val % 8 = 0) (cp xp cm xm : Vec Ideal S16x1024 .bf16) (q : Fin 16) (k : Fin 1024) :
    k0_pay3 (F := Ideal) (grid0.coords t) cp xp cm xm (ix2 q k) = cm (ix2 q k) * xm (ix2 q k) := by
  have e : isFirst (grid0.coords t) = 1#1 := by rw [isFirst_eq, if_pos h]
  have u : k0_pay3 (F := Ideal) (grid0.coords t) cp xp cm xm
      = Scalar.select (isFirst (grid0.coords t)) (mulf (extf .f32 cm bitsLt_bf16_f32) (extf .f32 xm bitsLt_bf16_f32))
          (mulf (extf .f32 cp bitsLt_bf16_f32) (extf .f32 xp bitsLt_bf16_f32)) := rfl
  rw [u, e]
  pointwise []

theorem pay3_later (t : Fin cfg0.N) (h : ¬t.val % 8 = 0) (cp xp cm xm : Vec Ideal S16x1024 .bf16) (q : Fin 16) (k : Fin 1024) :
    k0_pay3 (F := Ideal) (grid0.coords t) cp xp cm xm (ix2 q k) = cp (ix2 q k) * xp (ix2 q k) := by
  have e : isFirst (grid0.coords t) = 0#1 := by rw [isFirst_eq, if_neg h]
  have u : k0_pay3 (F := Ideal) (grid0.coords t) cp xp cm xm
      = Scalar.select (isFirst (grid0.coords t)) (mulf (extf .f32 cm bitsLt_bf16_f32) (extf .f32 xm bitsLt_bf16_f32))
          (mulf (extf .f32 cp bitsLt_bf16_f32) (extf .f32 xp bitsLt_bf16_f32)) := rfl
  rw [u, e]
  pointwise []

theorem pay2_apply (cg xc : Vec Ideal S256x1024 .bf16) (r : Fin 256) (k : Fin 1024) :
    k0_pay2 (F := Ideal) cg xc (ix2 r k) = cg (ix2 r k) * xc (ix2 r k) := by
  pointwise [k0_pay2]

theorem pay4_apply (i : grid0.Coords) (cp xp cm xm : Vec Ideal S16x1024 .bf16) (k : Fin 1024) :
    k0_pay4 (F := Ideal) i cp xp cm xm (ix2 0 k) = k0_pay3 i cp xp cm xm (ix2 15 k) := by
  pointwise [k0_pay4]

theorem pay5_apply (i : grid0.Coords) (cp xp cm xm : Vec Ideal S16x1024 .bf16) (k : Fin 1024) :
    k0_pay5 (F := Ideal) i cp xp cm xm (ix2 0 k) = k0_pay3 i cp xp cm xm (ix2 14 k) := by
  pointwise [k0_pay5]

theorem word_eq : ∀ r : Fin 256, IntOp.cmpi CmpIPredicate.eq (BitVec.ofNat 32 r.val) 0#32 = (if r.val = 0 then 1#1 else 0#1)
    ∧ IntOp.cmpi CmpIPredicate.eq (BitVec.ofNat 32 r.val) 1#32 = (if r.val = 1 then 1#1 else 0#1) := by
  decide +kernel

/-- One row back: row 0 takes the last row in front of the tile. -/
theorem back1_apply (i : grid0.Coords) (cg xc : Vec Ideal S256x1024 .bf16) (cp xp cm xm : Vec Ideal S16x1024 .bf16) (r : Fin 256) (k : Fin 1024) :
    k0_pay6 (F := Ideal) i cg xc cp xp cm xm (ix2 r k)
      = if r.val = 0 then k0_pay4 i cp xp cm xm (ix2 0 k) else k0_pay2 cg xc (ix2 ⟨r.val - 1, by omega⟩ k) := by
  by_cases h : r.val = 0
  · pointwise [k0_pay6]
    rw [(word_eq r).1, if_pos h, if_pos h]
    rfl
  · pointwise [k0_pay6]
    rw [(word_eq r).1, if_neg h, if_neg h]
    exact congrArg (fun x => k0_pay2 cg xc (ix2 x k)) (Fin.ext (by show (r.val + 256 - 1) % 256 = r.val - 1; omega))

/-- Two rows back: rows 0 and 1 take the last two rows in front of the tile. -/
def back2 (g : FVec Ideal S256x1024 .f32) (h1 h2 : FVec Ideal S1x1024 .f32) : FVec Ideal S256x1024 .f32 :=
  select (cmpi .eq (iota .tc S256x1024 32 [0] iota_S256x1024_d0_w32) k0_pay7)
    (broadcastTo S256x1024 (shapeCast S1x1024 h2 shapeCasts_S1x1024_S1x1024) broadcasts_S1x1024_S256x1024)
    (select (cmpi .eq (iota .tc S256x1024 32 [0] iota_S256x1024_d0_w32) (broadcast S256x1024 1#32))
      (broadcastTo S256x1024 (shapeCast S1x1024 h1 shapeCasts_S1x1024_S1x1024) broadcasts_S1x1024_S256x1024)
      (dynamicRotate 0 2#32 none g rotates_S256x1024_d0))

theorem back2_apply (g : FVec Ideal S256x1024 .f32) (h1 h2 : FVec Ideal S1x1024 .f32) (r : Fin 256) (k : Fin 1024) :
    back2 g h1 h2 (ix2 r k)
      = if r.val = 0 then h2 (ix2 0 k) else if r.val = 1 then h1 (ix2 0 k) else g (ix2 ⟨r.val - 2, by omega⟩ k) := by
  by_cases h : r.val = 0
  · pointwise [back2, k0_pay7]
    rw [(word_eq r).1, if_pos h, if_pos h]
    rfl
  · by_cases h' : r.val = 1
    · pointwise [back2, k0_pay7]
      rw [(word_eq r).1, (word_eq r).2, if_neg h, if_neg h, if_pos h', if_pos h']
      rfl
    · pointwise [back2, k0_pay7]
      rw [(word_eq r).1, (word_eq r).2, if_neg h, if_neg h, if_neg h', if_neg h']
      exact congrArg (fun x => g (ix2 x k)) (Fin.ext (by show (r.val + 256 - 2) % 256 = r.val - 2; omega))

/-- The convolution branch's rows: gate times convolution, through the branch weight. -/
theorem pay8_apply (g : FVec Ideal S256x1024 .f32) (h1 h2 : FVec Ideal S1x1024 .f32) (p1 : FVec Ideal S256x1024 .f32)
    (cw : Vec Ideal S3x1024 .f32) (cb : Vec Ideal S1x1024 .f32) (gb : Vec Ideal S256x1024 .bf16) (wc : Vec Ideal S1024x2048 .bf16)
    (r : Fin 256) (n : Fin 2048) :
    k0_pay8 (F := Ideal) g h1 h2 (iota .tc S256x1024 32 [0] iota_S256x1024_d0_w32) p1 k0_pay7 cw cb gb wc (ix2 r n)
      = ∑ k : Fin 1024, gb (ix2 r k) * Layer.taps (fun j => cw (ix2 j k)) (cb (ix2 0 k)) (back2 g h1 h2 (ix2 r k)) (p1 (ix2 r k)) (g (ix2 r k))
          * wc (ix2 k n) := by
  have u : k0_pay8 (F := Ideal) g h1 h2 (iota .tc S256x1024 32 [0] iota_S256x1024_d0_w32) p1 k0_pay7 cw cb gb wc
      = matmul dot_S256x1024_S1024x2048_S256x2048_1_0_0_1_n_n none (truncf .bf16 (mulf (extf .f32 gb bitsLt_bf16_f32) (addf (addf (addf
          (mulf (broadcastTo S256x1024 (extractStridedSlice S1x1024 ![0, 0] (shapeCast S3x1024 cw shapeCasts_S3x1024_S3x1024) slices_S3x1024_o0_0_S1x1024) broadcasts_S1x1024_S256x1024) (back2 g h1 h2))
          (mulf (broadcastTo S256x1024 (extractStridedSlice S1x1024 ![1, 0] (shapeCast S3x1024 cw shapeCasts_S3x1024_S3x1024) slices_S3x1024_o1_0_S1x1024) broadcasts_S1x1024_S256x1024) p1))
          (mulf (broadcastTo S256x1024 (extractStridedSlice S1x1024 ![2, 0] (shapeCast S3x1024 cw shapeCasts_S3x1024_S3x1024) slices_S3x1024_o2_0_S1x1024) broadcasts_S1x1024_S256x1024) g))
          (broadcastTo S256x1024 (shapeCast S1x1024 cb shapeCasts_S1x1024_S1x1024) broadcasts_S1x1024_S256x1024))) bitsLt_bf16_f32)
        (shapeCast S1024x2048 wc shapeCasts_S1024x2048_S1024x2048) (constant S256x2048 .f32 0x00000000#32) := rfl
  rw [u]
  pointwise [Layer.taps]

/-- The attention branch's rows. -/
theorem pay9_apply (a : Vec Ideal S256x1024 .bf16) (wa : Vec Ideal S1024x2048 .bf16) (r : Fin 256) (n : Fin 2048) :
    k0_pay9 (F := Ideal) a wa (ix2 r n) = ∑ k : Fin 1024, a (ix2 r k) * wa (ix2 k n) := by
  pointwise [k0_pay9]

theorem pay10_apply (a : Vec Ideal S256x1024 .bf16) (r : Fin 256) (k : Fin 1024) :
    k0_pay10 (F := Ideal) a (ix2 r k) = Ideal.logistic (a (ix2 r k)) := by
  pointwise [k0_pay10]

/-- The two branches through their gates, a row's left and right half side by side. -/
def merge (yc ya : FVec Ideal S256x2048 .f32) (s : FVec Ideal S256x1024 .f32) (gc0 ga1 gc1 : Vec Ideal S256x1024 .bf16) : FVec Ideal S256x2048 .f32 :=
  concatenate S256x2048 1 [⟨S256x1024, (addf (mulf s (extractStridedSlice S256x1024 ![0, 0] ya slices_S256x2048_o0_0_S256x1024))
      (mulf (logistic (extf .f32 gc0 bitsLt_bf16_f32)) (extractStridedSlice S256x1024 ![0, 0] yc slices_S256x2048_o0_0_S256x1024)))⟩,
    ⟨S256x1024, (addf (mulf (logistic (extf .f32 ga1 bitsLt_bf16_f32)) (extractStridedSlice S256x1024 ![0, 1024] ya slices_S256x2048_o0_1024_S256x1024))
      (mulf (logistic (extf .f32 gc1 bitsLt_bf16_f32)) (extractStridedSlice S256x1024 ![0, 1024] yc slices_S256x2048_o0_1024_S256x1024)))⟩]
    concatenates_S256x1024_S256x1024_S256x2048_d1

theorem merge_left (yc ya : FVec Ideal S256x2048 .f32) (s : FVec Ideal S256x1024 .f32) (gc0 ga1 gc1 : Vec Ideal S256x1024 .bf16)
    (r : Fin 256) (n : Fin 2048) (k : Fin 1024) (h : n.val = k.val) :
    merge yc ya s gc0 ga1 gc1 (ix2 r n) = s (ix2 r k) * ya (ix2 r n) + Ideal.logistic (gc0 (ix2 r k)) * yc (ix2 r n) := by
  obtain ⟨n, hn⟩ := n
  obtain rfl : n = k.val := h
  pointwise [merge]

theorem merge_right (yc ya : FVec Ideal S256x2048 .f32) (s : FVec Ideal S256x1024 .f32) (gc0 ga1 gc1 : Vec Ideal S256x1024 .bf16)
    (r : Fin 256) (n : Fin 2048) (k : Fin 1024) (h : n.val = 1024 + k.val) :
    merge yc ya s gc0 ga1 gc1 (ix2 r n)
      = Ideal.logistic (ga1 (ix2 r k)) * ya (ix2 r n) + Ideal.logistic (gc1 (ix2 r k)) * yc (ix2 r n) := by
  obtain ⟨n, hn⟩ := n
  obtain rfl : n = 1024 + k.val := h
  pointwise [merge]

theorem pay1_apply (yc ya : FVec Ideal S256x2048 .f32) (s : FVec Ideal S256x1024 .f32) (gc0 ga1 gc1 : Vec Ideal S256x1024 .bf16)
    (x : Vec Ideal S256x2048 .f32) (wo : Vec Ideal S2048x2048 .bf16) (r : Fin 256) (n : Fin 2048) :
    k0_pay1 (F := Ideal) yc ya s gc0 ga1 gc1 x wo (ix2 r n)
      = x (ix2 r n) + ∑ k : Fin 2048, merge yc ya s gc0 ga1 gc1 (ix2 r k) * wo (ix2 k n) := by
  have u : k0_pay1 (F := Ideal) yc ya s gc0 ga1 gc1 x wo
      = addf (shapeCast S256x2048 x shapeCasts_S256x2048_S256x2048) (matmul dot_S256x2048_S2048x2048_S256x2048_1_0_0_1_n_n none
          (truncf .bf16 (merge yc ya s gc0 ga1 gc1) bitsLt_bf16_f32) (shapeCast S2048x2048 wo shapeCasts_S2048x2048_S2048x2048) (constant S256x2048 .f32 0x00000000#32)) := rfl
  rw [u]
  pointwise []

/-! The blocks of a grid point, read from the arguments. -/

section
variable (c : Dev nD) (t : Fin cfg0.N)

theorem blkX (b : Fin 8) (s : Fin 2048) (r : Fin 256) (h : b.val * 2048 + s.val = t.val * 256 + r.val) (l : Fin 2048) :
    iblk m c 0 t (ix2 r l) = m ((c : Thread nD τ).loc main_arg0) (ix3 b s l) := by
  blk_point [iblk, V, idx t]

theorem blkA (b : Fin 8) (s : Fin 2048) (r : Fin 256) (h : b.val * 2048 + s.val = t.val * 256 + r.val) (l : Fin 1024) :
    iblk m c 1 t (ix2 r l) = m ((c : Thread nD τ).loc main_arg1) (ix3 b s l) := by
  blk_point [iblk, V, idx t]

theorem blk2 (j : Fin 16384) (r : Fin 256) (h : j.val = t.val * 256 + r.val) (l : Fin 1024) :
    iblk m c 2 t (ix2 r l) = m ((c : Thread nD τ).loc main_arg2) (ix2 j ⟨l.val, by omega⟩) := by
  blk_point [iblk, V, idx t]

theorem blk3 (j : Fin 16384) (r : Fin 256) (h : j.val = t.val * 256 + r.val) (l : Fin 1024) :
    iblk m c 3 t (ix2 r l) = m ((c : Thread nD τ).loc main_arg2) (ix2 j ⟨1024 + l.val, by omega⟩) := by
  blk_point [iblk, V, idx t]

theorem blk4 (j : Fin 16384) (r : Fin 256) (h : j.val = t.val * 256 + r.val) (l : Fin 1024) :
    iblk m c 4 t (ix2 r l) = m ((c : Thread nD τ).loc main_arg2) (ix2 j ⟨2048 + l.val, by omega⟩) := by
  blk_point [iblk, V, idx t]

theorem blk5 (j : Fin 16384) (r : Fin 256) (h : j.val = t.val * 256 + r.val) (l : Fin 1024) :
    iblk m c 5 t (ix2 r l) = m ((c : Thread nD τ).loc main_arg2) (ix2 j ⟨3072 + l.val, by omega⟩) := by
  blk_point [iblk, V, idx t]

theorem blk6 (j : Fin 16384) (r : Fin 256) (h : j.val = t.val * 256 + r.val) (l : Fin 1024) :
    iblk m c 6 t (ix2 r l) = m ((c : Thread nD τ).loc main_arg2) (ix2 j ⟨4096 + l.val, by omega⟩) := by
  blk_point [iblk, V, idx t]

theorem blk7 (j : Fin 16384) (r : Fin 256) (h : j.val = t.val * 256 + r.val) (l : Fin 1024) :
    iblk m c 7 t (ix2 r l) = m ((c : Thread nD τ).loc main_arg2) (ix2 j ⟨5120 + l.val, by omega⟩) := by
  blk_point [iblk, V, idx t]

theorem blk8 (j : Fin 16384) (r : Fin 256) (h : j.val = t.val * 256 + r.val) (l : Fin 1024) :
    iblk m c 8 t (ix2 r l) = m ((c : Thread nD τ).loc main_arg2) (ix2 j ⟨6144 + l.val, by omega⟩) := by
  blk_point [iblk, V, idx t]

theorem blk9 (j : Fin 16384) (q : Fin 16) (h0 : 0 < t.val) (h : j.val + 16 = t.val * 256 + q.val) (l : Fin 1024) :
    iblk m c 9 t (ix2 q l) = m ((c : Thread nD τ).loc main_arg2) (ix2 j ⟨l.val, by omega⟩) := by
  blk_point [iblk, V, idx t]

theorem blk10 (j : Fin 16384) (q : Fin 16) (h0 : 0 < t.val) (h : j.val + 16 = t.val * 256 + q.val) (l : Fin 1024) :
    iblk m c 10 t (ix2 q l) = m ((c : Thread nD τ).loc main_arg2) (ix2 j ⟨2048 + l.val, by omega⟩) := by
  blk_point [iblk, V, idx t]

theorem blk11 (q : Fin 16) (l : Fin 1024) :
    iblk m c 11 t (ix2 q l) = m ((c : Thread nD τ).loc main_arg3) (ix2 q ⟨l.val, by omega⟩) := by
  blk_point [iblk, V, idx t]

theorem blk12 (q : Fin 16) (l : Fin 1024) :
    iblk m c 12 t (ix2 q l) = m ((c : Thread nD τ).loc main_arg3) (ix2 q ⟨2048 + l.val, by omega⟩) := by
  blk_point [iblk, V, idx t]

theorem blk13 (j : Fin 3) (l : Fin 1024) : iblk m c 13 t (ix2 j l) = m ((c : Thread nD τ).loc main_arg4) (ix3 0 j l) := by
  blk_point [iblk, V, idx t]

theorem blk14 (l : Fin 1024) : iblk m c 14 t (ix2 0 l) = m ((c : Thread nD τ).loc main_arg5) (ix2 0 l) := by
  blk_point [iblk, V, idx t]

theorem blk15 (k : Fin 1024) (n : Fin 2048) : iblk m c 15 t (ix2 k n) = m ((c : Thread nD τ).loc main_arg6) (ix3 0 k n) := by
  blk_point [iblk, V, idx t]

theorem blk16 (k : Fin 1024) (n : Fin 2048) : iblk m c 16 t (ix2 k n) = m ((c : Thread nD τ).loc main_arg7) (ix3 0 k n) := by
  blk_point [iblk, V, idx t]

theorem blk17 (k n : Fin 2048) : iblk m c 17 t (ix2 k n) = m ((c : Thread nD τ).loc main_arg8) (ix3 0 k n) := by
  blk_point [iblk, V, idx t]

/-- The convolution's input over the arguments. -/
abbrev input : FVec Ideal Cert.Reference3Ideal.S8x2064x1024 .f32 :=
  Cert.Reference3Ideal.Read.convIn (m ((c : Thread nD τ).loc main_arg2)) (m ((c : Thread nD τ).loc main_arg3))

theorem here (b : Fin 8) (s : Fin 2048) (r : Fin 256) (h : b.val * 2048 + s.val = t.val * 256 + r.val) (k : Fin 1024) :
    k0_pay2 (F := Ideal) (iblk m c 4 t) (iblk m c 2 t) (ix2 r k) = input m c (ix3 b ⟨s.val + 16, by omega⟩ k) := by
  rw [pay2_apply, blk4 m c t ⟨b.val * 2048 + s.val, by omega⟩ r h, blk2 m c t ⟨b.val * 2048 + s.val, by omega⟩ r h]
  exact (Cert.Reference3Ideal.Read.convIn_seq _ _ b _ k s (Nat.add_comm _ _) _ rfl).symm

/-- A row in front of the tile, counted from the sixteen rows before the tile's first. -/
theorem front (b : Fin 8) (s : Fin 2048) (h : b.val * 2048 + s.val = t.val * 256) (hs : s.val % 256 = 0) (q : Fin 16) (k : Fin 1024) :
    k0_pay3 (F := Ideal) (grid0.coords t) (iblk m c 10 t) (iblk m c 9 t) (iblk m c 12 t) (iblk m c 11 t) (ix2 q k)
      = input m c (ix3 b ⟨s.val + q.val, by omega⟩ k) := by
  by_cases h0 : t.val % 8 = 0
  · rw [pay3_first t h0, blk12, blk11]
    exact (Cert.Reference3Ideal.Read.convIn_meta _ _ b _ k q (by show s.val + q.val = q.val; omega)).symm
  · rw [pay3_later t h0, blk10 m c t ⟨t.val * 256 + q.val - 16, by have : t.val < 64 := t.isLt; omega⟩ q (by omega) (by show t.val * 256 + q.val - 16 + 16 = _; omega),
      blk9 m c t ⟨t.val * 256 + q.val - 16, by have : t.val < 64 := t.isLt; omega⟩ q (by omega) (by show t.val * 256 + q.val - 16 + 16 = _; omega)]
    exact (Cert.Reference3Ideal.Read.convIn_seq _ _ b _ k ⟨s.val + q.val - 16, by omega⟩ (by show s.val + q.val = 16 + (s.val + q.val - 16); omega)
      _ (by show t.val * 256 + q.val - 16 = b.val * 2048 + (s.val + q.val - 16); omega)).symm

theorem tap1 (b : Fin 8) (s : Fin 2048) (r : Fin 256) (h : b.val * 2048 + s.val = t.val * 256 + r.val) (k : Fin 1024) :
    k0_pay6 (F := Ideal) (grid0.coords t) (iblk m c 4 t) (iblk m c 2 t) (iblk m c 10 t) (iblk m c 9 t) (iblk m c 12 t) (iblk m c 11 t) (ix2 r k)
      = input m c (ix3 b ⟨s.val + 15, by omega⟩ k) := by
  rw [back1_apply]
  by_cases h0 : r.val = 0
  · rw [if_pos h0, pay4_apply]
    exact front m c t b s (by omega) (by omega) 15 k
  · rw [if_neg h0, here m c t b ⟨s.val - 1, by omega⟩ ⟨r.val - 1, by omega⟩ (by show b.val * 2048 + (s.val - 1) = t.val * 256 + (r.val - 1); omega)]
    exact congrArg (fun x => input m c (ix3 b x k)) (Fin.ext (by show s.val - 1 + 16 = s.val + 15; omega))

theorem tap2 (b : Fin 8) (s : Fin 2048) (r : Fin 256) (h : b.val * 2048 + s.val = t.val * 256 + r.val) (k : Fin 1024) :
    back2 (k0_pay2 (iblk m c 4 t) (iblk m c 2 t)) (k0_pay4 (grid0.coords t) (iblk m c 10 t) (iblk m c 9 t) (iblk m c 12 t) (iblk m c 11 t))
      (k0_pay5 (grid0.coords t) (iblk m c 10 t) (iblk m c 9 t) (iblk m c 12 t) (iblk m c 11 t)) (ix2 r k)
      = input m c (ix3 b ⟨s.val + 14, by omega⟩ k) := by
  rw [back2_apply]
  by_cases h0 : r.val = 0
  · rw [if_pos h0, pay5_apply]
    exact front m c t b s (by omega) (by omega) 14 k
  by_cases h1 : r.val = 1
  · rw [if_neg h0, if_pos h1, pay4_apply, front m c t b ⟨s.val - 1, by omega⟩ (by show b.val * 2048 + (s.val - 1) = _; omega) (by show (s.val - 1) % 256 = 0; omega)]
    exact congrArg (fun x => input m c (ix3 b x k)) (Fin.ext (by show s.val - 1 + 15 = s.val + 14; omega))
  · rw [if_neg h0, if_neg h1, here m c t b ⟨s.val - 2, by omega⟩ ⟨r.val - 2, by omega⟩ (by show b.val * 2048 + (s.val - 2) = t.val * 256 + (r.val - 2); omega)]
    exact congrArg (fun x => input m c (ix3 b x k)) (Fin.ext (by show s.val - 2 + 16 = s.val + 14; omega))

/-- The tile's rows of the convolution branch. -/
def tileConv : FVec Ideal S256x2048 .f32 :=
  k0_pay8 (k0_pay2 (iblk m c 4 t) (iblk m c 2 t)) (k0_pay4 (grid0.coords t) (iblk m c 10 t) (iblk m c 9 t) (iblk m c 12 t) (iblk m c 11 t))
    (k0_pay5 (grid0.coords t) (iblk m c 10 t) (iblk m c 9 t) (iblk m c 12 t) (iblk m c 11 t)) (iota .tc S256x1024 32 [0] iota_S256x1024_d0_w32)
    (k0_pay6 (grid0.coords t) (iblk m c 4 t) (iblk m c 2 t) (iblk m c 10 t) (iblk m c 9 t) (iblk m c 12 t) (iblk m c 11 t)) k0_pay7
    (iblk m c 13 t) (iblk m c 14 t) (iblk m c 3 t) (iblk m c 16 t)

/-- The reference's convolution branch over the arguments. -/
abbrev refConv : FVec Ideal Cert.Reference3Ideal.S8x2048x2048 .f32 :=
  Cert.Reference3Ideal.Read.branch (m ((c : Thread nD τ).loc main_arg2)) (m ((c : Thread nD τ).loc main_arg3)) (m ((c : Thread nD τ).loc main_arg4))
    (m ((c : Thread nD τ).loc main_arg5)) (m ((c : Thread nD τ).loc main_arg7))

/-- The reference's attention branch over the arguments. -/
abbrev refAttn : FVec Ideal Cert.Reference3Ideal.S8x2048x2048 .f32 :=
  Cert.Reference3Ideal.Read.attn (m ((c : Thread nD τ).loc main_arg1)) (m ((c : Thread nD τ).loc main_arg6))

theorem tileConv_apply (b : Fin 8) (s : Fin 2048) (r : Fin 256) (h : b.val * 2048 + s.val = t.val * 256 + r.val) (n : Fin 2048) :
    tileConv m c t (ix2 r n) = refConv m c (ix3 b s n) := by
  unfold tileConv refConv
  rw [pay8_apply, Cert.Reference3Ideal.Read.branch_apply]
  refine Finset.sum_congr rfl fun k _ => ?_
  rw [tap2 m c t b s r h, tap1 m c t b s r h, here m c t b s r h, Cert.Reference3Ideal.Read.conv_apply,
    Cert.Reference3Ideal.Read.rows_apply, blk3 m c t ⟨b.val * 2048 + s.val, by omega⟩ r h, blk16, blk14]
  simp only [blk13]

theorem tileAttn_apply (b : Fin 8) (s : Fin 2048) (r : Fin 256) (h : b.val * 2048 + s.val = t.val * 256 + r.val) (n : Fin 2048) :
    k0_pay9 (F := Ideal) (iblk m c 1 t) (iblk m c 15 t) (ix2 r n) = refAttn m c (ix3 b s n) := by
  unfold refAttn
  rw [pay9_apply, Cert.Reference3Ideal.Read.attn_apply]
  refine Finset.sum_congr rfl fun k _ => ?_
  rw [blkA m c t b s r h, blk15]

theorem tileMerged_apply (b : Fin 8) (s : Fin 2048) (r : Fin 256) (h : b.val * 2048 + s.val = t.val * 256 + r.val) (n : Fin 2048) :
    merge (tileConv m c t) (k0_pay9 (iblk m c 1 t) (iblk m c 15 t)) (k0_pay10 (iblk m c 5 t)) (iblk m c 7 t) (iblk m c 6 t) (iblk m c 8 t) (ix2 r n)
      = Cert.Reference3Ideal.Read.merged (m ((c : Thread nD τ).loc main_arg2)) (refAttn m c) (refConv m c) (ix3 b s n) := by
  rw [Cert.Reference3Ideal.Read.merged_apply, Cert.Reference3Ideal.Read.rows_apply, Cert.Reference3Ideal.Read.rows_apply]
  by_cases hn : n.val < 1024
  · rw [merge_left _ _ _ _ _ _ r n ⟨n.val, hn⟩ rfl, pay10_apply, tileConv_apply m c t b s r h, tileAttn_apply m c t b s r h,
      blk5 m c t ⟨b.val * 2048 + s.val, by omega⟩ r h, blk7 m c t ⟨b.val * 2048 + s.val, by omega⟩ r h]
  · rw [merge_right _ _ _ _ _ _ r n ⟨n.val - 1024, by omega⟩ (by show n.val = 1024 + (n.val - 1024); omega), tileConv_apply m c t b s r h, tileAttn_apply m c t b s r h,
      blk6 m c t ⟨b.val * 2048 + s.val, by omega⟩ r h, blk8 m c t ⟨b.val * 2048 + s.val, by omega⟩ r h]
    have e1 : (⟨4096 + (n.val - 1024), by omega⟩ : Fin 7168) = ⟨3072 + n.val, by omega⟩ := Fin.ext (by show 4096 + (n.val - 1024) = 3072 + n.val; omega)
    have e2 : (⟨6144 + (n.val - 1024), by omega⟩ : Fin 7168) = ⟨5120 + n.val, by omega⟩ := Fin.ext (by show 6144 + (n.val - 1024) = 5120 + n.val; omega)
    exact congrArg₂ (fun x y : Fin 7168 => Ideal.logistic (m ((c : Thread nD τ).loc main_arg2) (ix2 ⟨b.val * 2048 + s.val, by omega⟩ x)) * refAttn m c (ix3 b s n)
      + Ideal.logistic (m ((c : Thread nD τ).loc main_arg2) (ix2 ⟨b.val * 2048 + s.val, by omega⟩ y)) * refConv m c (ix3 b s n)) e1 e2

/-- What a grid point leaves is the reference's rows of its tile. -/
theorem point (r : Fin 256) (n : Fin 2048) (j : Fin 16384) (hj : j.val = t.val * 256 + r.val) :
    k0_pay1 (F := Ideal) (tileConv m c t) (k0_pay9 (iblk m c 1 t) (iblk m c 15 t)) (k0_pay10 (iblk m c 5 t)) (iblk m c 7 t) (iblk m c 6 t)
        (iblk m c 8 t) (iblk m c 0 t) (iblk m c 17 t) (ix2 r n)
      = Cert.Reference3Ideal.Read.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (ix2 j n) := by
  have hs : j.val / 2048 * 2048 + j.val % 2048 = t.val * 256 + r.val := by omega
  have hj' : j.val / 2048 < 8 := by omega
  rw [Cert.Reference3Ideal.Read.result_apply _ _ _ _ _ _ _ _ _ ⟨j.val / 2048, hj'⟩ ⟨j.val % 2048, by omega⟩ n j
      (by show j.val = j.val / 2048 * 2048 + j.val % 2048; omega),
    pay1_apply, blkX m c t ⟨j.val / 2048, hj'⟩ ⟨j.val % 2048, by omega⟩ r hs]
  refine congrArg _ (Finset.sum_congr rfl fun k _ => ?_)
  rw [tileMerged_apply m c t ⟨j.val / 2048, hj'⟩ ⟨j.val % 2048, by omega⟩ r hs, blk17]

end

/-- The array the call returns is the reference's, at the arguments. -/
theorem final (c : Dev nD) : (dats m 0 c).arrAt 18 (cfgs 0).N
    = Cert.Reference3Ideal.Read.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 18 _ (by decide +kernel) fun t hf y => ?_
  have ht : t.val < 64 := t.isLt
  blk_simp
  rw [after0_18]
  idx_vars y
  unfold out0_18
  frame_out
  refine (point m c t y0 y1 ⟨t.val * 256 + y0.val, by omega⟩ rfl).trans (congrArg _ ?_)
  blk_ext [idx t]

end Cert.Kernel3Ideal.Value
-- ==== Proof.AttnRef.lean ====
module

public import proofs.«01_k».proof.Proof.Gen.Reference4Ideal.Run
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe

namespace Layer

/-- One entry of a head of 128 numbers, root-mean-square normalised, with gain `g`. -/
def rms128 (x g : Fin 128 → EReal) (d : Fin 128) : EReal :=
  x d * Ideal.rsqrt (Ideal.div (∑ l : Fin 128, x l * x l) (Ideal.ofBits .f32 0x43000000#32) + Ideal.ofBits .f32 0x358637BD#32) * g d

/-- The rotary embedding of the first 32 of a head's 128 lanes, lane `d` paired with lane `d + 16`: cosines `c` and sines `s`. -/
def rope16 (x : Fin 128 → EReal) (c s : Fin 16 → EReal) (d : Fin 128) : EReal :=
  if h : d.val < 16 then x d * c ⟨d.val, h⟩ - x ⟨d.val + 16, by omega⟩ * s ⟨d.val, h⟩
  else if h' : d.val < 32 then x d * c ⟨d.val - 16, by omega⟩ + x ⟨d.val - 16, by omega⟩ * s ⟨d.val - 16, by omega⟩
  else x d

/-- The rotary embedding of the first 16 of a head's 64 lanes, lane `d` paired with lane `d + 8`. -/
def rope8 (x : Fin 64 → EReal) (c s : Fin 8 → EReal) (d : Fin 64) : EReal :=
  if h : d.val < 8 then x d * c ⟨d.val, h⟩ - x ⟨d.val + 8, by omega⟩ * s ⟨d.val, h⟩
  else if h' : d.val < 16 then x d * c ⟨d.val - 8, by omega⟩ + x ⟨d.val - 8, by omega⟩ * s ⟨d.val - 8, by omega⟩
  else x d

/-- The inverse frequency of lane `f` of a rotary table over `w` lanes (`w` the float word): the base to the power of
minus twice the lane over the width. -/
def freq (w : BitVec 32) (f : ℕ) : EReal :=
  Ideal.pow (Ideal.ofBits .f32 0x48F42400#32)
    (Ideal.div (-(Ideal.ofBits .f32 0x40000000#32 * FloatOps.sitofp (F := Ideal) .f32 (BitVec.ofNat 32 f))) (Ideal.ofBits .f32 w))

/-- The rotary angle of position `s` after the sixteen meta rows. -/
def angle (w : BitVec 32) (s f : ℕ) : EReal := FloatOps.sitofp (F := Ideal) .f32 (BitVec.ofNat 32 (16 + s)) * freq w f

end Layer

namespace Cert.Reference4Ideal.Read
open Cert.Reference4Ideal Cert.Reference4Ideal.Gen

/-- The normalised rows. -/
def normed (X : FVec Ideal S8x2048x2048 .f32) (G : FVec Ideal S1x2048 .f32) : FVec Ideal S8x2048x2048 .f32 :=
  mulf (mulf X (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf X X) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ G shapeCasts_S1x2048_S2048)))

theorem normed_apply (X : FVec Ideal S8x2048x2048 .f32) (G : FVec Ideal S1x2048 .f32) (b : Fin 8) (s k : Fin 2048) :
    normed X G (ix3 b s k) = Layer.rms2048 (fun l => X (ix3 b s l)) (fun l => G (ix2 0 l)) k := by
  pointwise [normed, Layer.rms2048]

/-- The projection: every column of the rows' product with the weight. -/
def proj (X : FVec Ideal S8x2048x2048 .f32) (G : FVec Ideal S1x2048 .f32) (W : FVec Ideal S1x2048x9808 .f32) :
    FVec Ideal S8x2048x9808 .f32 :=
  Host.dotGeneral dot_S8x2048x2048_S2048x9808_S8x2048x9808_2_0_01_1_n_n none (normed X G) (shapeCast _ W shapeCasts_S1x2048x9808_S2048x9808)

theorem proj_apply (X : FVec Ideal S8x2048x2048 .f32) (G : FVec Ideal S1x2048 .f32) (W : FVec Ideal S1x2048x9808 .f32)
    (b : Fin 8) (s : Fin 2048) (n : Fin 9808) :
    proj X G W (ix3 b s n) = ∑ k : Fin 2048,
      Layer.rms2048 (fun l => X (ix3 b s l)) (fun l => G (ix2 0 l)) k * W (ix3 0 k n) := by
  pointwise [proj, normed_apply]

/-- The rotary angles over 32 lanes of 128: positions times inverse frequencies. -/
def angles16 : FVec Ideal S2064x16 .f32 :=
  mulf (broadcastInDim S2064x16 ![0, 1] bcast_S2064x1_S2064x16_0_1 (broadcastInDim S2064x1 ![0] bcast_S2064_S2064x1_0 (sitofp .f32 (iotaInDim S2064 32 0)))) (broadcastInDim S2064x16 ![0, 1] bcast_S1x16_S2064x16_0_1 (broadcastInDim S1x16 ![1] bcast_S16_S1x16_1 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

/-- The cosines of the positions after the meta rows. -/
def cos16 : FVec Ideal S2048x16 .f32 :=
  extractStridedSlice S2048x16 ![16, 0] (Host.cos angles16) slices_S2064x16_S2048x16_16_0

/-- The sines of the positions after the meta rows. -/
def sin16 : FVec Ideal S2048x16 .f32 :=
  extractStridedSlice S2048x16 ![16, 0] (Host.sin angles16) slices_S2064x16_S2048x16_16_0

/-- The rotary angles over 16 lanes of 64: positions times inverse frequencies. -/
def angles8 : FVec Ideal S2064x8 .f32 :=
  mulf (broadcastInDim S2064x8 ![0, 1] bcast_S2064x1_S2064x8_0_1 (broadcastInDim S2064x1 ![0] bcast_S2064_S2064x1_0 (sitofp .f32 (iotaInDim S2064 32 0)))) (broadcastInDim S2064x8 ![0, 1] bcast_S1x8_S2064x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The cosines of the positions after the meta rows. -/
def cos8 : FVec Ideal S2048x8 .f32 :=
  extractStridedSlice S2048x8 ![16, 0] (Host.cos angles8) slices_S2064x8_S2048x8_16_0

/-- The sines of the positions after the meta rows. -/
def sin8 : FVec Ideal S2048x8 .f32 :=
  extractStridedSlice S2048x8 ![16, 0] (Host.sin angles8) slices_S2064x8_S2048x8_16_0

/-- The query columns, head by head. -/
def qCols (Z : FVec Ideal S8x2048x9808 .f32) : FVec Ideal S8x2048x8x128 .f32 :=
  shapeCast _ (extractStridedSlice S8x2048x1024 ![0, 0, 0] Z slices_S8x2048x9808_S8x2048x1024_0_0_0) shapeCasts_S8x2048x1024_S8x2048x8x128

theorem qCols_apply (Z : FVec Ideal S8x2048x9808 .f32) (b : Fin 8) (s : Fin 2048) (i : Fin 8) (d : Fin 128) :
    qCols Z (ix4 b s i d) = Z (ix3 b s ⟨0 + (i.val * 128 + d.val), by omega⟩) := by
  pointwise [qCols]

/-- … normalised. -/
def qNorm (Y : FVec Ideal S8x2048x8x128 .f32) (Q : FVec Ideal S1x128 .f32) : FVec Ideal S8x2048x8x128 .f32 :=
  mulf (mulf Y (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf Y Y) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 (shapeCast _ Q shapeCasts_S1x128_S128)))

theorem qNorm_apply (Y : FVec Ideal S8x2048x8x128 .f32) (Q : FVec Ideal S1x128 .f32) (b : Fin 8) (s : Fin 2048)
    (i : Fin 8) (d : Fin 128) :
    qNorm Y Q (ix4 b s i d) = Layer.rms128 (fun l => Y (ix4 b s i l)) (fun l => Q (ix2 0 l)) d := by
  pointwise [qNorm, Layer.rms128]

/-- … rotated by its position. -/
def qRot (Y : FVec Ideal S8x2048x8x128 .f32) (C S : FVec Ideal S2048x16 .f32) : FVec Ideal S8x2048x8x128 .f32 :=
  concatenate S8x2048x8x128 3 [⟨S8x2048x8x16, ((subf (mulf (extractStridedSlice S8x2048x8x16 ![0, 0, 0, 0] Y slices_S8x2048x8x128_S8x2048x8x16_0_0_0_0) (broadcastInDim S8x2048x8x16 ![0, 1, 2, 3] bcast_S1x2048x1x16_S8x2048x8x16_0_1_2_3 (broadcastInDim S1x2048x1x16 ![1, 3] bcast_S2048x16_S1x2048x1x16_1_3 C))) (mulf (extractStridedSlice S8x2048x8x16 ![0, 0, 0, 16] Y slices_S8x2048x8x128_S8x2048x8x16_0_0_0_16) (broadcastInDim S8x2048x8x16 ![0, 1, 2, 3] bcast_S1x2048x1x16_S8x2048x8x16_0_1_2_3 (broadcastInDim S1x2048x1x16 ![1, 3] bcast_S2048x16_S1x2048x1x16_1_3 S)))) : (⟨S8x2048x8x16, .f32⟩ : BufTy).Contents (Elt Ideal))⟩, ⟨S8x2048x8x16, ((addf (mulf (extractStridedSlice S8x2048x8x16 ![0, 0, 0, 16] Y slices_S8x2048x8x128_S8x2048x8x16_0_0_0_16) (broadcastInDim S8x2048x8x16 ![0, 1, 2, 3] bcast_S1x2048x1x16_S8x2048x8x16_0_1_2_3 (broadcastInDim S1x2048x1x16 ![1, 3] bcast_S2048x16_S1x2048x1x16_1_3 C))) (mulf (extractStridedSlice S8x2048x8x16 ![0, 0, 0, 0] Y slices_S8x2048x8x128_S8x2048x8x16_0_0_0_0) (broadcastInDim S8x2048x8x16 ![0, 1, 2, 3] bcast_S1x2048x1x16_S8x2048x8x16_0_1_2_3 (broadcastInDim S1x2048x1x16 ![1, 3] bcast_S2048x16_S1x2048x1x16_1_3 S)))) : (⟨S8x2048x8x16, .f32⟩ : BufTy).Contents (Elt Ideal))⟩, ⟨S8x2048x8x96, ((extractStridedSlice S8x2048x8x96 ![0, 0, 0, 32] Y slices_S8x2048x8x128_S8x2048x8x96_0_0_0_32) : (⟨S8x2048x8x96, .f32⟩ : BufTy).Contents (Elt Ideal))⟩] concatenates_S8x2048x8x16_S8x2048x8x16_S8x2048x8x96_S8x2048x8x128_d3

theorem qRot_apply (Y : FVec Ideal S8x2048x8x128 .f32) (C S : FVec Ideal S2048x16 .f32) (b : Fin 8) (s : Fin 2048)
    (i : Fin 8) (d : Fin 128) :
    qRot Y C S (ix4 b s i d)
      = Layer.rope16 (fun l => Y (ix4 b s i l)) (fun f => C (ix2 s f)) (fun f => S (ix2 s f)) d := by
  pointwise [qRot, Layer.rope16]
  blk_point []
  all_goals (exfalso; omega)

/-- The key columns, head by head. -/
def kCols (Z : FVec Ideal S8x2048x9808 .f32) : FVec Ideal S8x2048x2x128 .f32 :=
  shapeCast _ (extractStridedSlice S8x2048x256 ![0, 0, 1024] Z slices_S8x2048x9808_S8x2048x256_0_0_1024) shapeCasts_S8x2048x256_S8x2048x2x128

theorem kCols_apply (Z : FVec Ideal S8x2048x9808 .f32) (b : Fin 8) (s : Fin 2048) (i : Fin 2) (d : Fin 128) :
    kCols Z (ix4 b s i d) = Z (ix3 b s ⟨1024 + (i.val * 128 + d.val), by omega⟩) := by
  pointwise [kCols]

/-- … normalised. -/
def kNorm (Y : FVec Ideal S8x2048x2x128 .f32) (Q : FVec Ideal S1x128 .f32) : FVec Ideal S8x2048x2x128 .f32 :=
  mulf (mulf Y (broadcastInDim S8x2048x2x128 ![0, 1, 2, 3] bcast_S8x2048x2x1_S8x2048x2x128_0_1_2_3 (Host.rsqrt (addf (Host.divf (broadcastInDim S8x2048x2x1 ![0, 1, 2] bcast_S8x2048x2_S8x2048x2x1_0_1_2 (Host.reduceAdd (mulf Y Y) (constant S_ .f32 0x00000000#32) reducesTo_S8x2048x2x128_S8x2048x2_d3 h_S_)) (broadcastInDim S8x2048x2x1 ![] bcast_S_S8x2048x2x1 (constant S_ .f32 0x43000000#32))) (broadcastInDim S8x2048x2x1 ![] bcast_S_S8x2048x2x1 (constant S_ .f32 0x358637BD#32)))))) (broadcastInDim S8x2048x2x128 ![0, 1, 2, 3] bcast_S1x1x1x128_S8x2048x2x128_0_1_2_3 (broadcastInDim S1x1x1x128 ![3] bcast_S128_S1x1x1x128_3 (shapeCast _ Q shapeCasts_S1x128_S128)))

theorem kNorm_apply (Y : FVec Ideal S8x2048x2x128 .f32) (Q : FVec Ideal S1x128 .f32) (b : Fin 8) (s : Fin 2048)
    (i : Fin 2) (d : Fin 128) :
    kNorm Y Q (ix4 b s i d) = Layer.rms128 (fun l => Y (ix4 b s i l)) (fun l => Q (ix2 0 l)) d := by
  pointwise [kNorm, Layer.rms128]

/-- … rotated by its position. -/
def kRot (Y : FVec Ideal S8x2048x2x128 .f32) (C S : FVec Ideal S2048x16 .f32) : FVec Ideal S8x2048x2x128 .f32 :=
  concatenate S8x2048x2x128 3 [⟨S8x2048x2x16, ((subf (mulf (extractStridedSlice S8x2048x2x16 ![0, 0, 0, 0] Y slices_S8x2048x2x128_S8x2048x2x16_0_0_0_0) (broadcastInDim S8x2048x2x16 ![0, 1, 2, 3] bcast_S1x2048x1x16_S8x2048x2x16_0_1_2_3 (broadcastInDim S1x2048x1x16 ![1, 3] bcast_S2048x16_S1x2048x1x16_1_3 C))) (mulf (extractStridedSlice S8x2048x2x16 ![0, 0, 0, 16] Y slices_S8x2048x2x128_S8x2048x2x16_0_0_0_16) (broadcastInDim S8x2048x2x16 ![0, 1, 2, 3] bcast_S1x2048x1x16_S8x2048x2x16_0_1_2_3 (broadcastInDim S1x2048x1x16 ![1, 3] bcast_S2048x16_S1x2048x1x16_1_3 S)))) : (⟨S8x2048x2x16, .f32⟩ : BufTy).Contents (Elt Ideal))⟩, ⟨S8x2048x2x16, ((addf (mulf (extractStridedSlice S8x2048x2x16 ![0, 0, 0, 16] Y slices_S8x2048x2x128_S8x2048x2x16_0_0_0_16) (broadcastInDim S8x2048x2x16 ![0, 1, 2, 3] bcast_S1x2048x1x16_S8x2048x2x16_0_1_2_3 (broadcastInDim S1x2048x1x16 ![1, 3] bcast_S2048x16_S1x2048x1x16_1_3 C))) (mulf (extractStridedSlice S8x2048x2x16 ![0, 0, 0, 0] Y slices_S8x2048x2x128_S8x2048x2x16_0_0_0_0) (broadcastInDim S8x2048x2x16 ![0, 1, 2, 3] bcast_S1x2048x1x16_S8x2048x2x16_0_1_2_3 (broadcastInDim S1x2048x1x16 ![1, 3] bcast_S2048x16_S1x2048x1x16_1_3 S)))) : (⟨S8x2048x2x16, .f32⟩ : BufTy).Contents (Elt Ideal))⟩, ⟨S8x2048x2x96, ((extractStridedSlice S8x2048x2x96 ![0, 0, 0, 32] Y slices_S8x2048x2x128_S8x2048x2x96_0_0_0_32) : (⟨S8x2048x2x96, .f32⟩ : BufTy).Contents (Elt Ideal))⟩] concatenates_S8x2048x2x16_S8x2048x2x16_S8x2048x2x96_S8x2048x2x128_d3

theorem kRot_apply (Y : FVec Ideal S8x2048x2x128 .f32) (C S : FVec Ideal S2048x16 .f32) (b : Fin 8) (s : Fin 2048)
    (i : Fin 2) (d : Fin 128) :
    kRot Y C S (ix4 b s i d)
      = Layer.rope16 (fun l => Y (ix4 b s i l)) (fun f => C (ix2 s f)) (fun f => S (ix2 s f)) d := by
  pointwise [kRot, Layer.rope16]
  blk_point []
  all_goals (exfalso; omega)

/-- The indexer's query columns, head by head. -/
def qiCols (Z : FVec Ideal S8x2048x9808 .f32) : FVec Ideal S8x2048x16x64 .f32 :=
  shapeCast _ (extractStridedSlice S8x2048x1024 ![0, 0, 1536] Z slices_S8x2048x9808_S8x2048x1024_0_0_1536) shapeCasts_S8x2048x1024_S8x2048x16x64

theorem qiCols_apply (Z : FVec Ideal S8x2048x9808 .f32) (b : Fin 8) (s : Fin 2048) (i : Fin 16) (d : Fin 64) :
    qiCols Z (ix4 b s i d) = Z (ix3 b s ⟨1536 + (i.val * 64 + d.val), by omega⟩) := by
  pointwise [qiCols]

/-- … rotated by its position. -/
def qiRot (Y : FVec Ideal S8x2048x16x64 .f32) (C S : FVec Ideal S2048x8 .f32) : FVec Ideal S8x2048x16x64 .f32 :=
  concatenate S8x2048x16x64 3 [⟨S8x2048x16x8, ((subf (mulf (extractStridedSlice S8x2048x16x8 ![0, 0, 0, 0] Y slices_S8x2048x16x64_S8x2048x16x8_0_0_0_0) (broadcastInDim S8x2048x16x8 ![0, 1, 2, 3] bcast_S1x2048x1x8_S8x2048x16x8_0_1_2_3 (broadcastInDim S1x2048x1x8 ![1, 3] bcast_S2048x8_S1x2048x1x8_1_3 C))) (mulf (extractStridedSlice S8x2048x16x8 ![0, 0, 0, 8] Y slices_S8x2048x16x64_S8x2048x16x8_0_0_0_8) (broadcastInDim S8x2048x16x8 ![0, 1, 2, 3] bcast_S1x2048x1x8_S8x2048x16x8_0_1_2_3 (broadcastInDim S1x2048x1x8 ![1, 3] bcast_S2048x8_S1x2048x1x8_1_3 S)))) : (⟨S8x2048x16x8, .f32⟩ : BufTy).Contents (Elt Ideal))⟩, ⟨S8x2048x16x8, ((addf (mulf (extractStridedSlice S8x2048x16x8 ![0, 0, 0, 8] Y slices_S8x2048x16x64_S8x2048x16x8_0_0_0_8) (broadcastInDim S8x2048x16x8 ![0, 1, 2, 3] bcast_S1x2048x1x8_S8x2048x16x8_0_1_2_3 (broadcastInDim S1x2048x1x8 ![1, 3] bcast_S2048x8_S1x2048x1x8_1_3 C))) (mulf (extractStridedSlice S8x2048x16x8 ![0, 0, 0, 0] Y slices_S8x2048x16x64_S8x2048x16x8_0_0_0_0) (broadcastInDim S8x2048x16x8 ![0, 1, 2, 3] bcast_S1x2048x1x8_S8x2048x16x8_0_1_2_3 (broadcastInDim S1x2048x1x8 ![1, 3] bcast_S2048x8_S1x2048x1x8_1_3 S)))) : (⟨S8x2048x16x8, .f32⟩ : BufTy).Contents (Elt Ideal))⟩, ⟨S8x2048x16x48, ((extractStridedSlice S8x2048x16x48 ![0, 0, 0, 16] Y slices_S8x2048x16x64_S8x2048x16x48_0_0_0_16) : (⟨S8x2048x16x48, .f32⟩ : BufTy).Contents (Elt Ideal))⟩] concatenates_S8x2048x16x8_S8x2048x16x8_S8x2048x16x48_S8x2048x16x64_d3

theorem qiRot_apply (Y : FVec Ideal S8x2048x16x64 .f32) (C S : FVec Ideal S2048x8 .f32) (b : Fin 8) (s : Fin 2048)
    (i : Fin 16) (d : Fin 64) :
    qiRot Y C S (ix4 b s i d)
      = Layer.rope8 (fun l => Y (ix4 b s i l)) (fun f => C (ix2 s f)) (fun f => S (ix2 s f)) d := by
  pointwise [qiRot, Layer.rope8]
  blk_point []
  all_goals (exfalso; omega)

/-- The indexer's key columns, head by head. -/
def kiCols (Z : FVec Ideal S8x2048x9808 .f32) : FVec Ideal S8x2048x1x64 .f32 :=
  shapeCast _ (extractStridedSlice S8x2048x64 ![0, 0, 2560] Z slices_S8x2048x9808_S8x2048x64_0_0_2560) shapeCasts_S8x2048x64_S8x2048x1x64

theorem kiCols_apply (Z : FVec Ideal S8x2048x9808 .f32) (b : Fin 8) (s : Fin 2048) (i : Fin 1) (d : Fin 64) :
    kiCols Z (ix4 b s i d) = Z (ix3 b s ⟨2560 + (i.val * 64 + d.val), by omega⟩) := by
  pointwise [kiCols]

/-- … rotated by its position. -/
def kiRot (Y : FVec Ideal S8x2048x1x64 .f32) (C S : FVec Ideal S2048x8 .f32) : FVec Ideal S8x2048x1x64 .f32 :=
  concatenate S8x2048x1x64 3 [⟨S8x2048x1x8, ((subf (mulf (extractStridedSlice S8x2048x1x8 ![0, 0, 0, 0] Y slices_S8x2048x1x64_S8x2048x1x8_0_0_0_0) (broadcastInDim S8x2048x1x8 ![0, 1, 2, 3] bcast_S1x2048x1x8_S8x2048x1x8_0_1_2_3 (broadcastInDim S1x2048x1x8 ![1, 3] bcast_S2048x8_S1x2048x1x8_1_3 C))) (mulf (extractStridedSlice S8x2048x1x8 ![0, 0, 0, 8] Y slices_S8x2048x1x64_S8x2048x1x8_0_0_0_8) (broadcastInDim S8x2048x1x8 ![0, 1, 2, 3] bcast_S1x2048x1x8_S8x2048x1x8_0_1_2_3 (broadcastInDim S1x2048x1x8 ![1, 3] bcast_S2048x8_S1x2048x1x8_1_3 S)))) : (⟨S8x2048x1x8, .f32⟩ : BufTy).Contents (Elt Ideal))⟩, ⟨S8x2048x1x8, ((addf (mulf (extractStridedSlice S8x2048x1x8 ![0, 0, 0, 8] Y slices_S8x2048x1x64_S8x2048x1x8_0_0_0_8) (broadcastInDim S8x2048x1x8 ![0, 1, 2, 3] bcast_S1x2048x1x8_S8x2048x1x8_0_1_2_3 (broadcastInDim S1x2048x1x8 ![1, 3] bcast_S2048x8_S1x2048x1x8_1_3 C))) (mulf (extractStridedSlice S8x2048x1x8 ![0, 0, 0, 0] Y slices_S8x2048x1x64_S8x2048x1x8_0_0_0_0) (broadcastInDim S8x2048x1x8 ![0, 1, 2, 3] bcast_S1x2048x1x8_S8x2048x1x8_0_1_2_3 (broadcastInDim S1x2048x1x8 ![1, 3] bcast_S2048x8_S1x2048x1x8_1_3 S)))) : (⟨S8x2048x1x8, .f32⟩ : BufTy).Contents (Elt Ideal))⟩, ⟨S8x2048x1x48, ((extractStridedSlice S8x2048x1x48 ![0, 0, 0, 16] Y slices_S8x2048x1x64_S8x2048x1x48_0_0_0_16) : (⟨S8x2048x1x48, .f32⟩ : BufTy).Contents (Elt Ideal))⟩] concatenates_S8x2048x1x8_S8x2048x1x8_S8x2048x1x48_S8x2048x1x64_d3

theorem kiRot_apply (Y : FVec Ideal S8x2048x1x64 .f32) (C S : FVec Ideal S2048x8 .f32) (b : Fin 8) (s : Fin 2048)
    (i : Fin 1) (d : Fin 64) :
    kiRot Y C S (ix4 b s i d)
      = Layer.rope8 (fun l => Y (ix4 b s i l)) (fun f => C (ix2 s f)) (fun f => S (ix2 s f)) d := by
  obtain rfl : i = 0 := Subsingleton.elim _ _
  pointwise [kiRot, Layer.rope8]
  blk_point []
  all_goals (exfalso; omega)

theorem cos16_apply (s : Fin 2048) (f : Fin 16) : cos16 (ix2 s f) = Ideal.cos (Layer.angle 0x42000000#32 s.val f.val) := by
  pointwise [cos16, angles16, Layer.angle, Layer.freq]

theorem sin16_apply (s : Fin 2048) (f : Fin 16) : sin16 (ix2 s f) = Ideal.sin (Layer.angle 0x42000000#32 s.val f.val) := by
  pointwise [sin16, angles16, Layer.angle, Layer.freq]

theorem cos8_apply (s : Fin 2048) (f : Fin 8) : cos8 (ix2 s f) = Ideal.cos (Layer.angle 0x41800000#32 s.val f.val) := by
  pointwise [cos8, angles8, Layer.angle, Layer.freq]

theorem sin8_apply (s : Fin 2048) (f : Fin 8) : sin8 (ix2 s f) = Ideal.sin (Layer.angle 0x41800000#32 s.val f.val) := by
  pointwise [sin8, angles8, Layer.angle, Layer.freq]

/-- The first result: the queries, normalised, rotated and scaled. -/
def q (Z : FVec Ideal S8x2048x9808 .f32) (Q : FVec Ideal S1x128 .f32) : FVec Ideal S16384x1024 .bf16 :=
  truncf .bf16 (shapeCast _ (mulf (qRot (qNorm (qCols Z) Q) cos16 sin16) (broadcastInDim S8x2048x8x128 ![] bcast_S_S8x2048x8x128 (constant S_ .f32 0x3E0293EE#32))) shapeCasts_S8x2048x8x128_S16384x1024) bitsLt_bf16_f32

theorem q_apply (Z : FVec Ideal S8x2048x9808 .f32) (Q : FVec Ideal S1x128 .f32) (b : Fin 8) (s : Fin 2048) (i : Fin 8) (d : Fin 128)
    (j : Fin 16384) (hj : j.val = b.val * 2048 + s.val) (n : Fin 1024) (hn : n.val = i.val * 128 + d.val) :
    q Z Q (ix2 j n) = Layer.rope16 (Layer.rms128 (fun l => Z (ix3 b s ⟨i.val * 128 + l.val, by omega⟩)) (fun l => Q (ix2 0 l)))
      (fun f => cos16 (ix2 s f)) (fun f => sin16 (ix2 s f)) d * Ideal.ofBits .f32 0x3E0293EE#32 := by
  obtain ⟨j, hj'⟩ := j
  obtain ⟨n, hn'⟩ := n
  obtain rfl : j = b.val * 2048 + s.val := hj
  obtain rfl : n = i.val * 128 + d.val := hn
  pointwise [q, qRot_apply, qNorm_apply, qCols_apply]

/-- The second result: the indexer's queries, rotated. -/
def qi (Z : FVec Ideal S8x2048x9808 .f32) : FVec Ideal S16384x1024 .bf16 :=
  truncf .bf16 (shapeCast _ (qiRot (qiCols Z) cos8 sin8) shapeCasts_S8x2048x16x64_S16384x1024) bitsLt_bf16_f32

theorem qi_apply (Z : FVec Ideal S8x2048x9808 .f32) (b : Fin 8) (s : Fin 2048) (i : Fin 16) (d : Fin 64)
    (j : Fin 16384) (hj : j.val = b.val * 2048 + s.val) (n : Fin 1024) (hn : n.val = i.val * 64 + d.val) :
    qi Z (ix2 j n) = Layer.rope8 (fun l => Z (ix3 b s ⟨1536 + (i.val * 64 + l.val), by omega⟩))
      (fun f => cos8 (ix2 s f)) (fun f => sin8 (ix2 s f)) d := by
  obtain ⟨j, hj'⟩ := j
  obtain ⟨n, hn'⟩ := n
  obtain rfl : j = b.val * 2048 + s.val := hj
  obtain rfl : n = i.val * 64 + d.val := hn
  pointwise [qi, qiRot_apply, qiCols_apply]

/-- The third result: the keys, normalised and rotated. -/
def k (Z : FVec Ideal S8x2048x9808 .f32) (Q : FVec Ideal S1x128 .f32) : FVec Ideal S16384x256 .bf16 :=
  truncf .bf16 (shapeCast _ (kRot (kNorm (kCols Z) Q) cos16 sin16) shapeCasts_S8x2048x2x128_S16384x256) bitsLt_bf16_f32

theorem k_apply (Z : FVec Ideal S8x2048x9808 .f32) (Q : FVec Ideal S1x128 .f32) (b : Fin 8) (s : Fin 2048) (i : Fin 2) (d : Fin 128)
    (j : Fin 16384) (hj : j.val = b.val * 2048 + s.val) (n : Fin 256) (hn : n.val = i.val * 128 + d.val) :
    k Z Q (ix2 j n) = Layer.rope16 (Layer.rms128 (fun l => Z (ix3 b s ⟨1024 + (i.val * 128 + l.val), by omega⟩)) (fun l => Q (ix2 0 l)))
      (fun f => cos16 (ix2 s f)) (fun f => sin16 (ix2 s f)) d := by
  obtain ⟨j, hj'⟩ := j
  obtain ⟨n, hn'⟩ := n
  obtain rfl : j = b.val * 2048 + s.val := hj
  obtain rfl : n = i.val * 128 + d.val := hn
  pointwise [k, kRot_apply, kNorm_apply, kCols_apply]

/-- The fourth result: the values. -/
def v (Z : FVec Ideal S8x2048x9808 .f32) : FVec Ideal S16384x256 .bf16 :=
  truncf .bf16 (shapeCast _ (extractStridedSlice S8x2048x256 ![0, 0, 1280] Z slices_S8x2048x9808_S8x2048x256_0_0_1280) shapeCasts_S8x2048x256_S16384x256) bitsLt_bf16_f32

theorem v_apply (Z : FVec Ideal S8x2048x9808 .f32) (b : Fin 8) (s : Fin 2048) (j : Fin 16384) (hj : j.val = b.val * 2048 + s.val)
    (n : Fin 256) : v Z (ix2 j n) = Z (ix3 b s ⟨1280 + n.val, by omega⟩) := by
  obtain ⟨j, hj'⟩ := j
  obtain rfl : j = b.val * 2048 + s.val := hj
  pointwise [v]

/-- The indexer's keys, rotated. -/
def ki (Z : FVec Ideal S8x2048x9808 .f32) : FVec Ideal S8x2048x64 .f32 :=
  shapeCast _ (kiRot (kiCols Z) cos8 sin8) shapeCasts_S8x2048x1x64_S8x2048x64

theorem ki_apply (Z : FVec Ideal S8x2048x9808 .f32) (b : Fin 8) (s : Fin 2048) (d : Fin 64) :
    ki Z (ix3 b s d) = Layer.rope8 (fun l => Z (ix3 b s ⟨2560 + l.val, by omega⟩))
      (fun f => cos8 (ix2 s f)) (fun f => sin8 (ix2 s f)) d := by
  pointwise [ki, kiRot_apply, kiCols_apply]

/-- The fifth result: the indexer's keys, twice. -/
def ki2 (Z : FVec Ideal S8x2048x9808 .f32) : FVec Ideal S16384x128 .bf16 :=
  truncf .bf16 (shapeCast _ (concatenate S8x2048x128 2 [⟨S8x2048x64, (ki Z)⟩, ⟨S8x2048x64, (ki Z)⟩] concatenates_S8x2048x64_S8x2048x64_S8x2048x128_d2) shapeCasts_S8x2048x128_S16384x128) bitsLt_bf16_f32

theorem ki2_apply (Z : FVec Ideal S8x2048x9808 .f32) (b : Fin 8) (s : Fin 2048) (e : Fin 2) (d : Fin 64)
    (j : Fin 16384) (hj : j.val = b.val * 2048 + s.val) (n : Fin 128) (hn : n.val = e.val * 64 + d.val) :
    ki2 Z (ix2 j n) = ki Z (ix3 b s d) := by
  obtain ⟨j, hj'⟩ := j
  obtain rfl : j = b.val * 2048 + s.val := hj
  pointwise [ki2]
  split_ifs
  · exact congrArg _ (congrArg (ix3 b s) (Fin.ext (by show n.val = d.val; omega)))
  all_goals exact congrArg _ (congrArg (ix3 b s) (Fin.ext (by show n.val - 64 = d.val; omega)))

/-- The sixth result: the indexer's weights with the columns after them, and the indexer's keys. -/
def wiki (Z : FVec Ideal S8x2048x9808 .f32) : FVec Ideal S16384x128 .f32 :=
  shapeCast _ (concatenate S8x2048x128 2 [⟨S8x2048x64, (extractStridedSlice S8x2048x64 ![0, 0, 2624] Z slices_S8x2048x9808_S8x2048x64_0_0_2624)⟩, ⟨S8x2048x64, (ki Z)⟩] concatenates_S8x2048x64_S8x2048x64_S8x2048x128_d2) shapeCasts_S8x2048x128_S16384x128

theorem wiki_lo (Z : FVec Ideal S8x2048x9808 .f32) (b : Fin 8) (s : Fin 2048) (d : Fin 64)
    (j : Fin 16384) (hj : j.val = b.val * 2048 + s.val) (n : Fin 128) (hn : n.val = d.val) :
    wiki Z (ix2 j n) = Z (ix3 b s ⟨2624 + d.val, by omega⟩) := by
  obtain ⟨j, hj'⟩ := j
  obtain rfl : j = b.val * 2048 + s.val := hj
  obtain ⟨n, hn'⟩ := n
  obtain rfl : n = d.val := hn
  pointwise [wiki]

theorem wiki_hi (Z : FVec Ideal S8x2048x9808 .f32) (b : Fin 8) (s : Fin 2048) (d : Fin 64)
    (j : Fin 16384) (hj : j.val = b.val * 2048 + s.val) (n : Fin 128) (hn : n.val = 64 + d.val) :
    wiki Z (ix2 j n) = ki Z (ix3 b s d) := by
  obtain ⟨j, hj'⟩ := j
  obtain rfl : j = b.val * 2048 + s.val := hj
  obtain ⟨n, hn'⟩ := n
  obtain rfl : n = 64 + d.val := hn
  pointwise [wiki]

/-- What every run of the program leaves: the six results at its arguments, and the arguments. -/
theorem run_reads (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v164) = q (proj (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_v166) = qi (proj (m ((c.tc : Thread nD τ).loc main_arg0)) (m ((c.tc : Thread nD τ).loc main_arg1)) (m ((c.tc : Thread nD τ).loc main_arg2)))
      ∧ r.2.mem ((c.tc : Thread nD τ).loc main_v168) = k (proj (m ((c.tc : Thread nD τ).loc main_arg0)) (m ((c.tc : Thread nD τ).loc main_arg1)) (m ((c.tc : Thread nD τ).loc main_arg2))) (m ((c.tc : Thread nD τ).loc main_arg4))
      ∧ r.2.mem ((c.tc : Thread nD τ).loc main_v170) = v (proj (m ((c.tc : Thread nD τ).loc main_arg0)) (m ((c.tc : Thread nD τ).loc main_arg1)) (m ((c.tc : Thread nD τ).loc main_arg2)))
      ∧ r.2.mem ((c.tc : Thread nD τ).loc main_v172) = ki2 (proj (m ((c.tc : Thread nD τ).loc main_arg0)) (m ((c.tc : Thread nD τ).loc main_arg1)) (m ((c.tc : Thread nD τ).loc main_arg2)))
      ∧ r.2.mem ((c.tc : Thread nD τ).loc main_v173) = wiki (proj (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl, (h c).2.2.2.1.trans rfl,
    (h c).2.2.2.2.1.trans rfl, (h c).2.2.2.2.2.1.trans rfl, (h c).2.2.2.2.2.2⟩) (Value.run (F := Ideal) m ρ)
end Cert.Reference4Ideal.Read
-- ==== Proof.AttnTables.lean ====
module

public import proofs.«01_k».proof.Proof.Gen.Kernel4Ideal.Value
public import proofs.«01_k».proof.Proof.AttnRef
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Layer

/-- A row of 128 lanes: the cosines `t` on both halves of the rotated lanes, one elsewhere. -/
def cosLanes16 (t : Fin 16 → EReal) (l : Fin 128) : EReal :=
  if h : l.val < 16 then t ⟨l.val, h⟩ else if h' : l.val - 16 < 16 then t ⟨l.val - 16, h'⟩ else 1

/-- A row of 128 lanes: the negated sines on the first half, zero elsewhere. -/
def negLanes16 (t : Fin 16 → EReal) (l : Fin 128) : EReal :=
  if h : l.val < 16 then -t ⟨l.val, h⟩ else if h' : l.val - 16 < 16 then 0 else 0

/-- A row of 128 lanes: the sines on the second half, zero elsewhere. -/
def sinLanes16 (t : Fin 16 → EReal) (l : Fin 128) : EReal :=
  if h : l.val < 16 then 0 else if h' : l.val - 16 < 16 then t ⟨l.val - 16, h'⟩ else 0

/-- A row of 128 lanes, two heads of 64: the cosines `t` on both halves of the rotated lanes, one elsewhere. -/
def cosLanes8 (t : Fin 8 → EReal) (l : Fin 128) : EReal :=
  if h : l.val % 64 < 8 then t ⟨l.val % 64, h⟩ else if h' : l.val % 64 - 8 < 8 then t ⟨l.val % 64 - 8, h'⟩ else 1

/-- A row of 128 lanes, two heads of 64: the negated sines on the first half, zero elsewhere. -/
def negLanes8 (t : Fin 8 → EReal) (l : Fin 128) : EReal :=
  if h : l.val % 64 < 8 then -t ⟨l.val % 64, h⟩ else if h' : l.val % 64 - 8 < 8 then 0 else 0

/-- A row of 128 lanes, two heads of 64: the sines on the second half, zero elsewhere. -/
def sinLanes8 (t : Fin 8 → EReal) (l : Fin 128) : EReal :=
  if h : l.val % 64 < 8 then 0 else if h' : l.val % 64 - 8 < 8 then t ⟨l.val % 64 - 8, h'⟩ else 0

/-- Rotating by whole-row products equals the rotary embedding: a lane times its cosine, the lane `16` above times the
negated sine of the first half, the lane `16` below times the sine of the second. -/
theorem turn16 (x : Fin 128 → EReal) (c s : Fin 16 → EReal) (l p n : Fin 128) (hp : p.val = (l.val + 16) % 128)
    (hn : n.val = (l.val + 112) % 128) :
    x l * cosLanes16 c l + x p * negLanes16 s l + x n * sinLanes16 s l = rope16 x c s l := by
  unfold cosLanes16 negLanes16 sinLanes16 rope16
  by_cases h : l.val < 16
  · rw [dif_pos h, dif_pos h, dif_pos h, dif_pos h, mul_zero, add_zero, mul_neg, ← sub_eq_add_neg,
      show p = ⟨l.val + 16, by omega⟩ from Fin.ext (by show p.val = l.val + 16; omega)]
  · by_cases h' : l.val < 32
    · have q : l.val - 16 < 128 := by clear hn hp; omega
      obtain rfl : n = ⟨l.val - 16, q⟩ := Fin.ext (by show n.val = l.val - 16; omega)
      rw [dif_neg h, dif_neg h, dif_neg h, dif_neg h, dif_pos (by omega), dif_pos (by omega), dif_pos (by omega), dif_pos h', mul_zero, add_zero]
    · rw [dif_neg h, dif_neg h, dif_neg h, dif_neg h, dif_neg (by omega), dif_neg (by omega), dif_neg (by omega), dif_neg h',
        mul_zero, mul_zero, add_zero, add_zero, mul_one]

/-- The same for two heads of 64 lanes side by side. -/
theorem turn8 (x : Fin 128 → EReal) (y : Fin 64 → EReal) (c s : Fin 8 → EReal) (e : Fin 2)
    (hy : ∀ d : Fin 64, y d = x ⟨e.val * 64 + d.val, by omega⟩) (l p n : Fin 128) (d : Fin 64) (hl : l.val = e.val * 64 + d.val)
    (hp : p.val = (l.val + 8) % 128) (hn : n.val = (l.val + 120) % 128) :
    x l * cosLanes8 c l + x p * negLanes8 s l + x n * sinLanes8 s l = rope8 y c s d := by
  obtain ⟨l, hl'⟩ := l
  obtain rfl : l = e.val * 64 + d.val := hl
  unfold cosLanes8 negLanes8 sinLanes8 rope8
  have hm : (e.val * 64 + d.val) % 64 = d.val := by omega
  simp only [hm, hy] at hp hn ⊢
  by_cases h : d.val < 8
  · rw [dif_pos h, dif_pos h, dif_pos h, dif_pos h, mul_zero, add_zero, mul_neg, ← sub_eq_add_neg,
      show p = ⟨e.val * 64 + (d.val + 8), by omega⟩ from Fin.ext (by show p.val = e.val * 64 + (d.val + 8); omega)]
  · by_cases h' : d.val < 16
    · have q : e.val * 64 + (d.val - 8) < 128 := by clear hn hp; omega
      obtain rfl : n = ⟨e.val * 64 + (d.val - 8), q⟩ := Fin.ext (by show n.val = e.val * 64 + (d.val - 8); omega)
      rw [dif_neg h, dif_neg h, dif_neg h, dif_neg h, dif_pos (by omega), dif_pos (by omega), dif_pos (by omega), dif_pos h', mul_zero, add_zero]
    · rw [dif_neg h, dif_neg h, dif_neg h, dif_neg h, dif_neg (by omega), dif_neg (by omega), dif_neg (by omega), dif_neg h',
        mul_zero, mul_zero, add_zero, add_zero, mul_one]

end Layer

namespace Cert.Kernel4Ideal.Tables
open Cert.Kernel4Ideal Cert.Kernel4Ideal.Gen

/-- The inverse frequencies of a head. -/
def freq16 : FVec Ideal S16 .f32 :=
  Host.powf (broadcastInDim S16 ![] bcast_S_S16 (constant (F := Ideal) S_ .f32 0x48F42400#32)) (Host.divf (Host.negf (addf (broadcastInDim S16 ![] bcast_S_S16 (constant (F := Ideal) S_ .f32 0x00000000#32)) (mulf (broadcastInDim S16 ![] bcast_S_S16 (constant (F := Ideal) S_ .f32 0x40000000#32)) (sitofp .f32 (iotaInDim S16 32 0))))) (broadcastInDim S16 ![] bcast_S_S16 (constant (F := Ideal) S_ .f32 0x42000000#32)))

/-- The rotary angles. -/
def angles16 : FVec Ideal S2048x16 .f32 :=
  mulf (broadcastInDim S2048x16 ![0, 1] bcast_S2048x1_S2048x16_0_1 (broadcastInDim S2048x1 ![0] bcast_S2048_S2048x1_0 (sitofp .f32 (addi (broadcastInDim S2048 ![] bcast_S_S2048 (constantI S_ 32 16#32)) (iotaInDim S2048 32 0))))) (broadcastInDim S2048x16 ![0, 1] bcast_S1x16_S2048x16_0_1 (broadcastInDim S1x16 ![1] bcast_S16_S1x16_1 freq16))

/-- The cosine table: cosines twice, then ones. -/
def cos16 : FVec Ideal S2048x128 .f32 :=
  concatenate S2048x128 1 [⟨S2048x16, ((Host.cos angles16) : (⟨S2048x16, .f32⟩ : BufTy).Contents (Elt Ideal))⟩, ⟨S2048x16, ((Host.cos angles16) : (⟨S2048x16, .f32⟩ : BufTy).Contents (Elt Ideal))⟩, ⟨S2048x96, ((broadcastInDim S2048x96 ![] bcast_S_S2048x96 (constant (F := Ideal) S_ .f32 0x3F800000#32)) : (⟨S2048x96, .f32⟩ : BufTy).Contents (Elt Ideal))⟩] concatenates_S2048x16_S2048x16_S2048x96_S2048x128_d1

/-- The table of the first half: negated sines, then zeros. -/
def neg16 : FVec Ideal S2048x128 .f32 :=
  concatenate S2048x128 1 [⟨S2048x16, ((Host.negf (Host.sin angles16)) : (⟨S2048x16, .f32⟩ : BufTy).Contents (Elt Ideal))⟩, ⟨S2048x16, ((broadcastInDim S2048x16 ![] bcast_S_S2048x16 (constant (F := Ideal) S_ .f32 0x00000000#32)) : (⟨S2048x16, .f32⟩ : BufTy).Contents (Elt Ideal))⟩, ⟨S2048x96, ((broadcastInDim S2048x96 ![] bcast_S_S2048x96 (constant (F := Ideal) S_ .f32 0x00000000#32)) : (⟨S2048x96, .f32⟩ : BufTy).Contents (Elt Ideal))⟩] concatenates_S2048x16_S2048x16_S2048x96_S2048x128_d1

/-- The table of the second half: zeros, sines, zeros. -/
def sin16 : FVec Ideal S2048x128 .f32 :=
  concatenate S2048x128 1 [⟨S2048x16, ((broadcastInDim S2048x16 ![] bcast_S_S2048x16 (constant (F := Ideal) S_ .f32 0x00000000#32)) : (⟨S2048x16, .f32⟩ : BufTy).Contents (Elt Ideal))⟩, ⟨S2048x16, ((Host.sin angles16) : (⟨S2048x16, .f32⟩ : BufTy).Contents (Elt Ideal))⟩, ⟨S2048x96, ((broadcastInDim S2048x96 ![] bcast_S_S2048x96 (constant (F := Ideal) S_ .f32 0x00000000#32)) : (⟨S2048x96, .f32⟩ : BufTy).Contents (Elt Ideal))⟩] concatenates_S2048x16_S2048x16_S2048x96_S2048x128_d1

/-- The table over the 128 lanes of a block. -/
def cosWide : FVec Ideal S2048x128 .f32 :=
  shapeCast _ (broadcastInDim S1x2048x1x128 ![0, 1, 2, 3] bcast_S1x2048x1x128_S1x2048x1x128_0_1_2_3 (shapeCast _ cos16 shapeCasts_S2048x128_S1x2048x1x128)) shapeCasts_S1x2048x1x128_S2048x128

/-- The table over the 128 lanes of a block. -/
def negWide : FVec Ideal S2048x128 .f32 :=
  shapeCast _ (broadcastInDim S1x2048x1x128 ![0, 1, 2, 3] bcast_S1x2048x1x128_S1x2048x1x128_0_1_2_3 (shapeCast _ neg16 shapeCasts_S2048x128_S1x2048x1x128)) shapeCasts_S1x2048x1x128_S2048x128

/-- The table over the 128 lanes of a block. -/
def sinWide : FVec Ideal S2048x128 .f32 :=
  shapeCast _ (broadcastInDim S1x2048x1x128 ![0, 1, 2, 3] bcast_S1x2048x1x128_S1x2048x1x128_0_1_2_3 (shapeCast _ sin16 shapeCasts_S2048x128_S1x2048x1x128)) shapeCasts_S1x2048x1x128_S2048x128

/-- The inverse frequencies of an indexer head. -/
def freq8 : FVec Ideal S8 .f32 :=
  Host.powf (broadcastInDim S8 ![] bcast_S_S8 (constant (F := Ideal) S_ .f32 0x48F42400#32)) (Host.divf (Host.negf (addf (broadcastInDim S8 ![] bcast_S_S8 (constant (F := Ideal) S_ .f32 0x00000000#32)) (mulf (broadcastInDim S8 ![] bcast_S_S8 (constant (F := Ideal) S_ .f32 0x40000000#32)) (sitofp .f32 (iotaInDim S8 32 0))))) (broadcastInDim S8 ![] bcast_S_S8 (constant (F := Ideal) S_ .f32 0x41800000#32)))

/-- The rotary angles. -/
def angles8 : FVec Ideal S2048x8 .f32 :=
  mulf (broadcastInDim S2048x8 ![0, 1] bcast_S2048x1_S2048x8_0_1 (broadcastInDim S2048x1 ![0] bcast_S2048_S2048x1_0 (sitofp .f32 (addi (broadcastInDim S2048 ![] bcast_S_S2048 (constantI S_ 32 16#32)) (iotaInDim S2048 32 0))))) (broadcastInDim S2048x8 ![0, 1] bcast_S1x8_S2048x8_0_1 (broadcastInDim S1x8 ![1] bcast_S8_S1x8_1 freq8))

/-- The cosine table of one indexer head. -/
def cos8 : FVec Ideal S2048x64 .f32 :=
  concatenate S2048x64 1 [⟨S2048x8, ((Host.cos angles8) : (⟨S2048x8, .f32⟩ : BufTy).Contents (Elt Ideal))⟩, ⟨S2048x8, ((Host.cos angles8) : (⟨S2048x8, .f32⟩ : BufTy).Contents (Elt Ideal))⟩, ⟨S2048x48, ((broadcastInDim S2048x48 ![] bcast_S_S2048x48 (constant (F := Ideal) S_ .f32 0x3F800000#32)) : (⟨S2048x48, .f32⟩ : BufTy).Contents (Elt Ideal))⟩] concatenates_S2048x8_S2048x8_S2048x48_S2048x64_d1

/-- The table of its first half. -/
def neg8 : FVec Ideal S2048x64 .f32 :=
  concatenate S2048x64 1 [⟨S2048x8, ((Host.negf (Host.sin angles8)) : (⟨S2048x8, .f32⟩ : BufTy).Contents (Elt Ideal))⟩, ⟨S2048x8, ((broadcastInDim S2048x8 ![] bcast_S_S2048x8 (constant (F := Ideal) S_ .f32 0x00000000#32)) : (⟨S2048x8, .f32⟩ : BufTy).Contents (Elt Ideal))⟩, ⟨S2048x48, ((broadcastInDim S2048x48 ![] bcast_S_S2048x48 (constant (F := Ideal) S_ .f32 0x00000000#32)) : (⟨S2048x48, .f32⟩ : BufTy).Contents (Elt Ideal))⟩] concatenates_S2048x8_S2048x8_S2048x48_S2048x64_d1

/-- The table of its second half. -/
def sin8 : FVec Ideal S2048x64 .f32 :=
  concatenate S2048x64 1 [⟨S2048x8, ((broadcastInDim S2048x8 ![] bcast_S_S2048x8 (constant (F := Ideal) S_ .f32 0x00000000#32)) : (⟨S2048x8, .f32⟩ : BufTy).Contents (Elt Ideal))⟩, ⟨S2048x8, ((Host.sin angles8) : (⟨S2048x8, .f32⟩ : BufTy).Contents (Elt Ideal))⟩, ⟨S2048x48, ((broadcastInDim S2048x48 ![] bcast_S_S2048x48 (constant (F := Ideal) S_ .f32 0x00000000#32)) : (⟨S2048x48, .f32⟩ : BufTy).Contents (Elt Ideal))⟩] concatenates_S2048x8_S2048x8_S2048x48_S2048x64_d1

/-- The table over the 128 lanes of a block. -/
def cosPair : FVec Ideal S2048x128 .f32 :=
  shapeCast _ (broadcastInDim S1x2048x2x64 ![0, 1, 2, 3] bcast_S1x2048x1x64_S1x2048x2x64_0_1_2_3 (shapeCast _ cos8 shapeCasts_S2048x64_S1x2048x1x64)) shapeCasts_S1x2048x2x64_S2048x128

/-- The table over the 128 lanes of a block. -/
def negPair : FVec Ideal S2048x128 .f32 :=
  shapeCast _ (broadcastInDim S1x2048x2x64 ![0, 1, 2, 3] bcast_S1x2048x1x64_S1x2048x2x64_0_1_2_3 (shapeCast _ neg8 shapeCasts_S2048x64_S1x2048x1x64)) shapeCasts_S1x2048x2x64_S2048x128

/-- The table over the 128 lanes of a block. -/
def sinPair : FVec Ideal S2048x128 .f32 :=
  shapeCast _ (broadcastInDim S1x2048x2x64 ![0, 1, 2, 3] bcast_S1x2048x1x64_S1x2048x2x64_0_1_2_3 (shapeCast _ sin8 shapeCasts_S2048x64_S1x2048x1x64)) shapeCasts_S1x2048x2x64_S2048x128

/-- The six tables. -/
def stacked : FVec Ideal S6x2048x128 .f32 :=
  concatenate S6x2048x128 0 [⟨S1x2048x128, ((broadcastInDim S1x2048x128 ![1, 2] bcast_S2048x128_S1x2048x128_1_2 cosWide) : (⟨S1x2048x128, .f32⟩ : BufTy).Contents (Elt Ideal))⟩, ⟨S1x2048x128, ((broadcastInDim S1x2048x128 ![1, 2] bcast_S2048x128_S1x2048x128_1_2 negWide) : (⟨S1x2048x128, .f32⟩ : BufTy).Contents (Elt Ideal))⟩, ⟨S1x2048x128, ((broadcastInDim S1x2048x128 ![1, 2] bcast_S2048x128_S1x2048x128_1_2 sinWide) : (⟨S1x2048x128, .f32⟩ : BufTy).Contents (Elt Ideal))⟩, ⟨S1x2048x128, ((broadcastInDim S1x2048x128 ![1, 2] bcast_S2048x128_S1x2048x128_1_2 cosPair) : (⟨S1x2048x128, .f32⟩ : BufTy).Contents (Elt Ideal))⟩, ⟨S1x2048x128, ((broadcastInDim S1x2048x128 ![1, 2] bcast_S2048x128_S1x2048x128_1_2 negPair) : (⟨S1x2048x128, .f32⟩ : BufTy).Contents (Elt Ideal))⟩, ⟨S1x2048x128, ((broadcastInDim S1x2048x128 ![1, 2] bcast_S2048x128_S1x2048x128_1_2 sinPair) : (⟨S1x2048x128, .f32⟩ : BufTy).Contents (Elt Ideal))⟩] concatenates_S1x2048x128_S1x2048x128_S1x2048x128_S1x2048x128_S1x2048x128_S1x2048x128_S6x2048x128_d0

/-- One 128-lane table as a layer of the stack. -/
def layerWide (z : FVec Ideal S2048x128 .f32) : FVec Ideal S1x2048x128 .f32 :=
  broadcastInDim S1x2048x128 ![1, 2] bcast_S2048x128_S1x2048x128_1_2 (shapeCast S2048x128 (broadcastInDim S1x2048x1x128 ![0, 1, 2, 3] bcast_S1x2048x1x128_S1x2048x1x128_0_1_2_3 (shapeCast S1x2048x1x128 z shapeCasts_S2048x128_S1x2048x1x128)) shapeCasts_S1x2048x1x128_S2048x128)

/-- One 64-lane table, repeated for two heads, as a layer of the stack. -/
def layerPair (z : FVec Ideal S2048x64 .f32) : FVec Ideal S1x2048x128 .f32 :=
  broadcastInDim S1x2048x128 ![1, 2] bcast_S2048x128_S1x2048x128_1_2 (shapeCast S2048x128 (broadcastInDim S1x2048x2x64 ![0, 1, 2, 3] bcast_S1x2048x1x64_S1x2048x2x64_0_1_2_3 (shapeCast S1x2048x1x64 z shapeCasts_S2048x64_S1x2048x1x64)) shapeCasts_S1x2048x2x64_S2048x128)

/-- Parts that agree make tables that agree: 16, 16 and 96 lanes. -/
theorem join16 {a a' b b' : FVec Ideal S2048x16 .f32} {d d' : FVec Ideal S2048x96 .f32} (ha : a = a') (hb : b = b') (hd : d = d') :
    concatenate S2048x128 1 [⟨S2048x16, a⟩, ⟨S2048x16, b⟩, ⟨S2048x96, d⟩] concatenates_S2048x16_S2048x16_S2048x96_S2048x128_d1
      = (concatenate S2048x128 1 [⟨S2048x16, a'⟩, ⟨S2048x16, b'⟩, ⟨S2048x96, d'⟩] concatenates_S2048x16_S2048x16_S2048x96_S2048x128_d1 : FVec Ideal S2048x128 .f32) := by
  subst ha hb hd; rfl

/-- Parts that agree make tables that agree: 8, 8 and 48 lanes. -/
theorem join8 {a a' b b' : FVec Ideal S2048x8 .f32} {d d' : FVec Ideal S2048x48 .f32} (ha : a = a') (hb : b = b') (hd : d = d') :
    concatenate S2048x64 1 [⟨S2048x8, a⟩, ⟨S2048x8, b⟩, ⟨S2048x48, d⟩] concatenates_S2048x8_S2048x8_S2048x48_S2048x64_d1
      = (concatenate S2048x64 1 [⟨S2048x8, a'⟩, ⟨S2048x8, b'⟩, ⟨S2048x48, d'⟩] concatenates_S2048x8_S2048x8_S2048x48_S2048x64_d1 : FVec Ideal S2048x64 .f32) := by
  subst ha hb hd; rfl

/-- Layers that agree make stacks that agree. -/
theorem join6 {a a' b b' d d' e e' f f' g g' : FVec Ideal S1x2048x128 .f32} (ha : a = a') (hb : b = b') (hd : d = d') (he : e = e') (hf : f = f') (hg : g = g') :
    concatenate S6x2048x128 0 [⟨S1x2048x128, a⟩, ⟨S1x2048x128, b⟩, ⟨S1x2048x128, d⟩, ⟨S1x2048x128, e⟩, ⟨S1x2048x128, f⟩, ⟨S1x2048x128, g⟩] concatenates_S1x2048x128_S1x2048x128_S1x2048x128_S1x2048x128_S1x2048x128_S1x2048x128_S6x2048x128_d0
      = (concatenate S6x2048x128 0 [⟨S1x2048x128, a'⟩, ⟨S1x2048x128, b'⟩, ⟨S1x2048x128, d'⟩, ⟨S1x2048x128, e'⟩, ⟨S1x2048x128, f'⟩, ⟨S1x2048x128, g'⟩] concatenates_S1x2048x128_S1x2048x128_S1x2048x128_S1x2048x128_S1x2048x128_S1x2048x128_S6x2048x128_d0 : FVec Ideal S6x2048x128 .f32) := by
  subst ha hb hd he hf hg; rfl

variable (m : (ℓ : Loc nD τ sig) → Buf (Elt Ideal) ℓ) (c : Dev nD)

/-- A part of a table, as the operations before it leave it. -/
theorem part22_31 : StableHlo.upto hostOps0 (fun b => m (c, b)) 31 (Proc.devRef .tc main_v22)
    = (Host.cos angles16 : FVec Ideal S2048x16 .f32) := by
  after_reads_simp
  rfl

/-- A part of a table, as the operations before it leave it. -/
theorem part24_31 : StableHlo.upto hostOps0 (fun b => m (c, b)) 31 (Proc.devRef .tc main_v24)
    = (broadcastInDim S2048x96 ![] bcast_S_S2048x96 (constant (F := Ideal) S_ .f32 0x3F800000#32) : FVec Ideal S2048x96 .f32) := by
  after_reads_simp

/-- A part of a table, as the operations before it leave it. -/
theorem part28_37 : StableHlo.upto hostOps0 (fun b => m (c, b)) 37 (Proc.devRef .tc main_v28)
    = (Host.negf (Host.sin angles16) : FVec Ideal S2048x16 .f32) := by
  after_reads_simp
  rfl

/-- A part of a table, as the operations before it leave it. -/
theorem part26_37 : StableHlo.upto hostOps0 (fun b => m (c, b)) 37 (Proc.devRef .tc main_v26)
    = (broadcastInDim S2048x16 ![] bcast_S_S2048x16 (constant (F := Ideal) S_ .f32 0x00000000#32) : FVec Ideal S2048x16 .f32) := by
  after_reads_simp

/-- A part of a table, as the operations before it leave it. -/
theorem part27_37 : StableHlo.upto hostOps0 (fun b => m (c, b)) 37 (Proc.devRef .tc main_v27)
    = (broadcastInDim S2048x96 ![] bcast_S_S2048x96 (constant (F := Ideal) S_ .f32 0x00000000#32) : FVec Ideal S2048x96 .f32) := by
  after_reads_simp

/-- A part of a table, as the operations before it leave it. -/
theorem part26_38 : StableHlo.upto hostOps0 (fun b => m (c, b)) 38 (Proc.devRef .tc main_v26)
    = (broadcastInDim S2048x16 ![] bcast_S_S2048x16 (constant (F := Ideal) S_ .f32 0x00000000#32) : FVec Ideal S2048x16 .f32) := by
  after_reads_simp

/-- A part of a table, as the operations before it leave it. -/
theorem part23_38 : StableHlo.upto hostOps0 (fun b => m (c, b)) 38 (Proc.devRef .tc main_v23)
    = (Host.sin angles16 : FVec Ideal S2048x16 .f32) := by
  after_reads_simp
  rfl

/-- A part of a table, as the operations before it leave it. -/
theorem part27_38 : StableHlo.upto hostOps0 (fun b => m (c, b)) 38 (Proc.devRef .tc main_v27)
    = (broadcastInDim S2048x96 ![] bcast_S_S2048x96 (constant (F := Ideal) S_ .f32 0x00000000#32) : FVec Ideal S2048x96 .f32) := by
  after_reads_simp

/-- A part of a table, as the operations before it leave it. -/
theorem part56_72 : StableHlo.upto hostOps0 (fun b => m (c, b)) 72 (Proc.devRef .tc main_v56)
    = (Host.cos angles8 : FVec Ideal S2048x8 .f32) := by
  after_reads_simp
  rfl

/-- A part of a table, as the operations before it leave it. -/
theorem part58_72 : StableHlo.upto hostOps0 (fun b => m (c, b)) 72 (Proc.devRef .tc main_v58)
    = (broadcastInDim S2048x48 ![] bcast_S_S2048x48 (constant (F := Ideal) S_ .f32 0x3F800000#32) : FVec Ideal S2048x48 .f32) := by
  after_reads_simp

/-- A part of a table, as the operations before it leave it. -/
theorem part62_78 : StableHlo.upto hostOps0 (fun b => m (c, b)) 78 (Proc.devRef .tc main_v62)
    = (Host.negf (Host.sin angles8) : FVec Ideal S2048x8 .f32) := by
  after_reads_simp
  rfl

/-- A part of a table, as the operations before it leave it. -/
theorem part60_78 : StableHlo.upto hostOps0 (fun b => m (c, b)) 78 (Proc.devRef .tc main_v60)
    = (broadcastInDim S2048x8 ![] bcast_S_S2048x8 (constant (F := Ideal) S_ .f32 0x00000000#32) : FVec Ideal S2048x8 .f32) := by
  after_reads_simp

/-- A part of a table, as the operations before it leave it. -/
theorem part61_78 : StableHlo.upto hostOps0 (fun b => m (c, b)) 78 (Proc.devRef .tc main_v61)
    = (broadcastInDim S2048x48 ![] bcast_S_S2048x48 (constant (F := Ideal) S_ .f32 0x00000000#32) : FVec Ideal S2048x48 .f32) := by
  after_reads_simp

/-- A part of a table, as the operations before it leave it. -/
theorem part60_79 : StableHlo.upto hostOps0 (fun b => m (c, b)) 79 (Proc.devRef .tc main_v60)
    = (broadcastInDim S2048x8 ![] bcast_S_S2048x8 (constant (F := Ideal) S_ .f32 0x00000000#32) : FVec Ideal S2048x8 .f32) := by
  after_reads_simp

/-- A part of a table, as the operations before it leave it. -/
theorem part57_79 : StableHlo.upto hostOps0 (fun b => m (c, b)) 79 (Proc.devRef .tc main_v57)
    = (Host.sin angles8 : FVec Ideal S2048x8 .f32) := by
  after_reads_simp
  rfl

/-- A part of a table, as the operations before it leave it. -/
theorem part61_79 : StableHlo.upto hostOps0 (fun b => m (c, b)) 79 (Proc.devRef .tc main_v61)
    = (broadcastInDim S2048x48 ![] bcast_S_S2048x48 (constant (F := Ideal) S_ .f32 0x00000000#32) : FVec Ideal S2048x48 .f32) := by
  after_reads_simp

/-- A layer of the stack, as the operations before it leave it. -/
theorem layer74 : StableHlo.upto hostOps0 (fun b => m (c, b)) 95 (Proc.devRef .tc main_v74)
    = (broadcastInDim S1x2048x128 ![1, 2] bcast_S2048x128_S1x2048x128_1_2 cosWide : FVec Ideal S1x2048x128 .f32) := by
  after_reads_simp
  exact congrArg layerWide (join16 (part22_31 m c) (part22_31 m c) (part24_31 m c))

/-- A layer of the stack, as the operations before it leave it. -/
theorem layer75 : StableHlo.upto hostOps0 (fun b => m (c, b)) 95 (Proc.devRef .tc main_v75)
    = (broadcastInDim S1x2048x128 ![1, 2] bcast_S2048x128_S1x2048x128_1_2 negWide : FVec Ideal S1x2048x128 .f32) := by
  after_reads_simp
  exact congrArg layerWide (join16 (part28_37 m c) (part26_37 m c) (part27_37 m c))

/-- A layer of the stack, as the operations before it leave it. -/
theorem layer76 : StableHlo.upto hostOps0 (fun b => m (c, b)) 95 (Proc.devRef .tc main_v76)
    = (broadcastInDim S1x2048x128 ![1, 2] bcast_S2048x128_S1x2048x128_1_2 sinWide : FVec Ideal S1x2048x128 .f32) := by
  after_reads_simp
  exact congrArg layerWide (join16 (part26_38 m c) (part23_38 m c) (part27_38 m c))

/-- A layer of the stack, as the operations before it leave it. -/
theorem layer77 : StableHlo.upto hostOps0 (fun b => m (c, b)) 95 (Proc.devRef .tc main_v77)
    = (broadcastInDim S1x2048x128 ![1, 2] bcast_S2048x128_S1x2048x128_1_2 cosPair : FVec Ideal S1x2048x128 .f32) := by
  after_reads_simp
  exact congrArg layerPair (join8 (part56_72 m c) (part56_72 m c) (part58_72 m c))

/-- A layer of the stack, as the operations before it leave it. -/
theorem layer78 : StableHlo.upto hostOps0 (fun b => m (c, b)) 95 (Proc.devRef .tc main_v78)
    = (broadcastInDim S1x2048x128 ![1, 2] bcast_S2048x128_S1x2048x128_1_2 negPair : FVec Ideal S1x2048x128 .f32) := by
  after_reads_simp
  exact congrArg layerPair (join8 (part62_78 m c) (part60_78 m c) (part61_78 m c))

/-- A layer of the stack, as the operations before it leave it. -/
theorem layer79 : StableHlo.upto hostOps0 (fun b => m (c, b)) 95 (Proc.devRef .tc main_v79)
    = (broadcastInDim S1x2048x128 ![1, 2] bcast_S2048x128_S1x2048x128_1_2 sinPair : FVec Ideal S1x2048x128 .f32) := by
  after_reads_simp
  exact congrArg layerPair (join8 (part60_79 m c) (part57_79 m c) (part61_79 m c))

/-- The tables the windows read are the stack. -/
theorem stacked_eq : V m c main_v80 = stacked := by
  unfold V
  after_reads_simp
  exact join6 (layer74 m c) (layer75 m c) (layer76 m c) (layer77 m c) (layer78 m c) (layer79 m c)

theorem pos_eq (s : ℕ) : IntOp.addi 16#32 (BitVec.ofNat 32 s) = BitVec.ofNat 32 (16 + s) :=
  (BitVec.ofNat_add 16 s).symm

theorem cosWide_apply (s : Fin 2048) (l : Fin 128) :
    cosWide (ix2 s l) = Layer.cosLanes16 (fun f => Ideal.cos (Layer.angle 0x42000000#32 s.val f.val)) l := by
  pointwise [cosWide, cos16, angles16, freq16, Layer.angle, Layer.freq, Layer.cosLanes16, pos_eq]

theorem negWide_apply (s : Fin 2048) (l : Fin 128) :
    negWide (ix2 s l) = Layer.negLanes16 (fun f => Ideal.sin (Layer.angle 0x42000000#32 s.val f.val)) l := by
  pointwise [negWide, neg16, angles16, freq16, Layer.angle, Layer.freq, Layer.negLanes16, pos_eq]

theorem sinWide_apply (s : Fin 2048) (l : Fin 128) :
    sinWide (ix2 s l) = Layer.sinLanes16 (fun f => Ideal.sin (Layer.angle 0x42000000#32 s.val f.val)) l := by
  pointwise [sinWide, sin16, angles16, freq16, Layer.angle, Layer.freq, Layer.sinLanes16, pos_eq]

theorem cosPair_apply (s : Fin 2048) (l : Fin 128) :
    cosPair (ix2 s l) = Layer.cosLanes8 (fun f => Ideal.cos (Layer.angle 0x41800000#32 s.val f.val)) l := by
  pointwise [cosPair, cos8, angles8, freq8, Layer.angle, Layer.freq, Layer.cosLanes8, pos_eq]

theorem negPair_apply (s : Fin 2048) (l : Fin 128) :
    negPair (ix2 s l) = Layer.negLanes8 (fun f => Ideal.sin (Layer.angle 0x41800000#32 s.val f.val)) l := by
  pointwise [negPair, neg8, angles8, freq8, Layer.angle, Layer.freq, Layer.negLanes8, pos_eq]

theorem sinPair_apply (s : Fin 2048) (l : Fin 128) :
    sinPair (ix2 s l) = Layer.sinLanes8 (fun f => Ideal.sin (Layer.angle 0x41800000#32 s.val f.val)) l := by
  pointwise [sinPair, sin8, angles8, freq8, Layer.angle, Layer.freq, Layer.sinLanes8, pos_eq]

theorem stacked_apply (s : Fin 2048) (l : Fin 128) : stacked (ix3 0 s l) = cosWide (ix2 s l) ∧ stacked (ix3 1 s l) = negWide (ix2 s l)
    ∧ stacked (ix3 2 s l) = sinWide (ix2 s l) ∧ stacked (ix3 3 s l) = cosPair (ix2 s l) ∧ stacked (ix3 4 s l) = negPair (ix2 s l)
    ∧ stacked (ix3 5 s l) = sinPair (ix2 s l) := by
  refine ⟨?_, ?_, ?_, ?_, ?_, ?_⟩ <;> pointwise [stacked]

/-! ### The other arrays the windows read -/

set_option maxHeartbeats 4000000 in
theorem rows_eq : V m c main_v81 = (shapeCast S16384x2048 (m ((c : Thread nD τ).loc main_arg0)) shapeCasts_S8x2048x2048_S16384x2048 : FVec Ideal S16384x2048 .f32) := by
  unfold V
  after_reads_simp
  rfl

theorem reshaped_apply (X : FVec Ideal S8x2048x2048 .f32) (b : Fin 8) (s : Fin 2048) (l : Fin 2048) (j : Fin 16384) (hj : j.val = b.val * 2048 + s.val) :
    shapeCast S16384x2048 X shapeCasts_S8x2048x2048_S16384x2048 (ix2 j l) = X (ix3 b s l) := by
  obtain ⟨j, hj'⟩ := j
  obtain rfl : j = b.val * 2048 + s.val := hj
  pointwise []

set_option maxHeartbeats 4000000 in
theorem rows_apply (b : Fin 8) (s : Fin 2048) (l : Fin 2048) (j : Fin 16384) (hj : j.val = b.val * 2048 + s.val) :
    V m c main_v81 (ix2 j l) = m ((c : Thread nD τ).loc main_arg0) (ix3 b s l) :=
  (congrFun (rows_eq m c) (ix2 j l)).trans (reshaped_apply _ b s l j hj)

set_option maxHeartbeats 4000000 in
theorem gain_eq (l : Fin 2048) : V m c main_v83 (ix2 0 l) = m ((c : Thread nD τ).loc main_arg1) (ix2 0 l) := by
  unfold V
  after_reads_simp
  pointwise []

set_option maxHeartbeats 4000000 in
theorem gainQ_eq (l : Fin 128) : V m c main_v85 (ix2 0 l) = m ((c : Thread nD τ).loc main_arg3) (ix2 0 l) := by
  unfold V
  after_reads_simp
  pointwise []

set_option maxHeartbeats 4000000 in
theorem gainK_eq (l : Fin 128) : V m c main_v87 (ix2 0 l) = m ((c : Thread nD τ).loc main_arg4) (ix2 0 l) := by
  unfold V
  after_reads_simp
  pointwise []

set_option maxHeartbeats 4000000 in
theorem weight_eq (n : Fin 9808) (k : Fin 2048) : V m c main_v2 (ix2 n k) = m ((c : Thread nD τ).loc main_arg2) (ix3 0 k n) := by
  unfold V
  after_reads_simp
  pointwise []

end Cert.Kernel4Ideal.Tables
-- ==== Proof.AttnBody.lean ====
module

public import proofs.«01_k».proof.Proof.Gen.Kernel4Ideal.Value
public import proofs.«01_k».proof.Proof.AttnTables
public import proofs.«01_k».proof.Proof.AttnRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen

/-! ### The body's heads, each one chain of operations -/

/-- A head's rows, root-mean-square normalised. -/
def headNorm (g : FVec Ideal S1x128 .f32) (x : FVec Ideal S256x128 .f32) : FVec Ideal S256x128 .f32 :=
  mulf (mulf x (broadcastTo S256x128 (rsqrt (addf (divf (shapeCast S256x1 (multiReduction .add [1] S256 (mulf x x) 0x00000000#32 reduces_S256x128_S256 (.inl rfl) rfl) shapeCasts_S256_S256x1) (broadcast S256x1 (Scalar.ofBits (F := Ideal) .f32 0x43000000#32))) (broadcast S256x1 (Scalar.ofBits (F := Ideal) .f32 0x358637BD#32)))) broadcasts_S256x1_S256x128)) (broadcastTo S256x128 g broadcasts_S1x128_S256x128)

/-- A head's rows turned by three tables: lanes 16 on and lanes 112 on. -/
def headTurn (C L H x : FVec Ideal S256x128 .f32) : FVec Ideal S256x128 .f32 :=
  addf (addf (mulf x C) (mulf (dynamicRotate 1 112#32 none x rotates_S256x128_d1) L)) (mulf (dynamicRotate 1 16#32 none x rotates_S256x128_d1) H)

/-- Two indexer heads' rows turned by three tables: lanes 8 on and lanes 120 on. -/
def pairTurn (C L H x : FVec Ideal S256x128 .f32) : FVec Ideal S256x128 .f32 :=
  addf (addf (mulf x C) (mulf (dynamicRotate 1 120#32 none x rotates_S256x128_d1) L)) (mulf (dynamicRotate 1 8#32 none x rotates_S256x128_d1) H)

theorem headNorm_apply (g : FVec Ideal S1x128 .f32) (x : FVec Ideal S256x128 .f32) (r : Fin 256) (d : Fin 128) :
    headNorm g x (ix2 r d) = Layer.rms128 (fun l => x (ix2 r l)) (fun l => g (ix2 0 l)) d := by
  pointwise [headNorm, Layer.rms128]

section
variable (C L H : FVec Ideal S256x128 .f32) (r : Fin 256)

/-- The tables of a 128-lane head at row `r`: cosines `c`, sines `s`. -/
structure Wide (c s : Fin 16 → EReal) : Prop where
  cos : ∀ l, C (ix2 r l) = Layer.cosLanes16 c l
  neg : ∀ l, L (ix2 r l) = Layer.negLanes16 s l
  sin : ∀ l, H (ix2 r l) = Layer.sinLanes16 s l

/-- The tables of two 64-lane heads at row `r`: cosines `c`, sines `s`. -/
structure Pair (c s : Fin 8 → EReal) : Prop where
  cos : ∀ l, C (ix2 r l) = Layer.cosLanes8 c l
  neg : ∀ l, L (ix2 r l) = Layer.negLanes8 s l
  sin : ∀ l, H (ix2 r l) = Layer.sinLanes8 s l

variable {C L H r}

theorem headTurn_apply {c s : Fin 16 → EReal} (h : Wide C L H r c s) (x : FVec Ideal S256x128 .f32) (d : Fin 128) :
    headTurn C L H x (ix2 r d) = Layer.rope16 (fun l => x (ix2 r l)) c s d := by
  refine Eq.trans ?_ (Layer.turn16 (fun l => x (ix2 r l)) c s d ⟨(d.val + 128 - 112) % 128, by omega⟩ ⟨(d.val + 128 - 16) % 128, by omega⟩
    (by show (d.val + 128 - 112) % 128 = _; omega) (by show (d.val + 128 - 16) % 128 = _; omega))
  rw [← h.cos, ← h.neg, ← h.sin]
  pointwise [headTurn]

theorem pairTurn_apply {c s : Fin 8 → EReal} (h : Pair C L H r c s) (x : FVec Ideal S256x128 .f32) (e : Fin 2) (d : Fin 64)
    (n : Fin 128) (hn : n.val = e.val * 64 + d.val) :
    pairTurn C L H x (ix2 r n) = Layer.rope8 (fun l => x (ix2 r ⟨e.val * 64 + l.val, by omega⟩)) c s d := by
  refine Eq.trans ?_ (Layer.turn8 (fun l => x (ix2 r l)) _ c s e (fun _ => rfl) n ⟨(n.val + 128 - 120) % 128, by omega⟩ ⟨(n.val + 128 - 8) % 128, by omega⟩
    d hn (by show (n.val + 128 - 120) % 128 = _; omega) (by show (n.val + 128 - 8) % 128 = _; omega))
  rw [← h.cos, ← h.neg, ← h.sin]
  pointwise [pairTurn]

/-- Head `i` of the queries: 128 columns of the product, normalised, turned and scaled. -/
theorem tileQ {c s : Fin 16 → EReal} (h : Wide C L H r c s) (g : FVec Ideal S1x128 .f32) (z : FVec Ideal S256x1024 .f32)
    (i : Fin 8) (off : ℕ) (ho : off = i.val * 128) (hs : Shape.Slices S256x1024 ![0, off] S256x128) (d : Fin 128) :
    truncf .bf16 (mulf (headTurn C L H (headNorm g (extractStridedSlice S256x128 ![0, off] z hs))) (broadcast S256x128 (Scalar.ofBits (F := Ideal) .f32 0x3E0293EE#32))) bitsLt_bf16_f32 (ix2 r d)
      = Layer.rope16 (Layer.rms128 (fun l => z (ix2 r ⟨i.val * 128 + l.val, by omega⟩)) (fun l => g (ix2 0 l))) c s d * Ideal.ofBits .f32 0x3E0293EE#32 := by
  subst ho
  refine congrArg (· * Ideal.ofBits .f32 0x3E0293EE#32) ?_
  rw [headTurn_apply h]
  simp only [headNorm_apply]
  refine congrArg (fun f => Layer.rope16 (Layer.rms128 f _) c s d) (funext fun l => ?_)
  pointwise []

/-- Head `i` of the keys: 128 columns of the product, normalised and turned. -/
theorem tileK {c s : Fin 16 → EReal} (h : Wide C L H r c s) (g : FVec Ideal S1x128 .f32) (z : FVec Ideal S256x256 .f32)
    (i : Fin 2) (off : ℕ) (ho : off = i.val * 128) (hs : Shape.Slices S256x256 ![0, off] S256x128) (d : Fin 128) :
    truncf .bf16 (headTurn C L H (headNorm g (extractStridedSlice S256x128 ![0, off] z hs))) bitsLt_bf16_f32 (ix2 r d)
      = Layer.rope16 (Layer.rms128 (fun l => z (ix2 r ⟨i.val * 128 + l.val, by omega⟩)) (fun l => g (ix2 0 l))) c s d := by
  subst ho
  show headTurn C L H _ (ix2 r d) = _
  rw [headTurn_apply h]
  simp only [headNorm_apply]
  refine congrArg (fun f => Layer.rope16 (Layer.rms128 f _) c s d) (funext fun l => ?_)
  pointwise []

/-- Two heads of the indexer's queries: 128 columns of the product, turned. -/
theorem tileI {c s : Fin 8 → EReal} (h : Pair C L H r c s) (z : FVec Ideal S256x1024 .f32)
    (i : Fin 16) (off : ℕ) (e : Fin 2) (ho : off = i.val / 2 * 128) (he : e.val = i.val % 2) (hs : Shape.Slices S256x1024 ![0, off] S256x128)
    (d : Fin 64) (n : Fin 128) (hn : n.val = e.val * 64 + d.val) :
    truncf .bf16 (pairTurn C L H (extractStridedSlice S256x128 ![0, off] z hs)) bitsLt_bf16_f32 (ix2 r n)
      = Layer.rope8 (fun l => z (ix2 r ⟨i.val * 64 + l.val, by omega⟩)) c s d := by
  subst ho
  show pairTurn C L H _ (ix2 r n) = _
  rw [pairTurn_apply h _ e d n hn]
  refine congrArg (fun f => Layer.rope8 f c s d) (funext fun l => ?_)
  pointwise []
  exact congrArg (fun k => z (ix2 r k)) (Fin.ext (by show i.val / 2 * 128 + (e.val * 64 + l.val) = i.val * 64 + l.val; omega))
end

/-! ### The stored tiles -/

/-- What the body's eight query tiles hold. -/
theorem canonQ {C L H : FVec Ideal S256x128 .f32} {r : Fin 256} {c s : Fin 16 → EReal} (h : Wide C L H r c s) (g : FVec Ideal S1x128 .f32)
    (u : FVec Ideal S256x2048 .bf16) (w : Vec Ideal S1024x2048 .bf16) (i : Fin 8) (d : Fin 128) (n : Fin 1024) (hn : n.val = i.val * 128 + d.val) :
    View.canon (Val := Elt Ideal) (e := .bf16) [⟨r0_17, k0_pay28 C L H g (k0_pay14 u w)⟩, ⟨r0_16, k0_pay27 C L H g (k0_pay14 u w)⟩, ⟨r0_15, k0_pay26 C L H g (k0_pay24 (k0_pay14 u w)) (k0_pay25 (k0_pay14 u w)) (Scalar.ofBits .f32 0x43000000#32)⟩, ⟨r0_14, k0_pay23 C L H g (k0_pay14 u w)⟩, ⟨r0_13, k0_pay22 C L H g (k0_pay20 (k0_pay14 u w)) (k0_pay21 (k0_pay14 u w))⟩, ⟨r0_12, k0_pay19 C L H g (k0_pay14 u w)⟩, ⟨r0_11, k0_pay18 L H (k0_pay16 u g w) (k0_pay17 u C g w) 112#32⟩, ⟨r0_10, k0_pay15 u C L H g w⟩] (ix2 r n)
      = Layer.rope16 (Layer.rms128 (fun l => k0_pay14 (F := Ideal) u w (ix2 r ⟨i.val * 128 + l.val, by omega⟩)) (fun l => g (ix2 0 l))) c s d * Ideal.ofBits .f32 0x3E0293EE#32 := by
  canon_tiles x a
  all_goals
    idx_vars x
    have a0' : r.val = x0.val := by simpa using a0
    obtain rfl : r = x0 := Fin.ext a0'
  · obtain rfl : i = 7 := Fin.ext (by show i.val = 7; omega)
    obtain rfl : x1 = d := Fin.ext (by show x1.val = d.val; omega)
    exact tileQ h g (k0_pay14 u w) 7 896 rfl slices_S256x1024_o0_896_S256x128 x1
  · obtain rfl : i = 6 := Fin.ext (by show i.val = 6; omega)
    obtain rfl : x1 = d := Fin.ext (by show x1.val = d.val; omega)
    exact tileQ h g (k0_pay14 u w) 6 768 rfl slices_S256x1024_o0_768_S256x128 x1
  · obtain rfl : i = 5 := Fin.ext (by show i.val = 5; omega)
    obtain rfl : x1 = d := Fin.ext (by show x1.val = d.val; omega)
    exact tileQ h g (k0_pay14 u w) 5 640 rfl slices_S256x1024_o0_640_S256x128 x1
  · obtain rfl : i = 4 := Fin.ext (by show i.val = 4; omega)
    obtain rfl : x1 = d := Fin.ext (by show x1.val = d.val; omega)
    exact tileQ h g (k0_pay14 u w) 4 512 rfl slices_S256x1024_o0_512_S256x128 x1
  · obtain rfl : i = 3 := Fin.ext (by show i.val = 3; omega)
    obtain rfl : x1 = d := Fin.ext (by show x1.val = d.val; omega)
    exact tileQ h g (k0_pay14 u w) 3 384 rfl slices_S256x1024_o0_384_S256x128 x1
  · obtain rfl : i = 2 := Fin.ext (by show i.val = 2; omega)
    obtain rfl : x1 = d := Fin.ext (by show x1.val = d.val; omega)
    exact tileQ h g (k0_pay14 u w) 2 256 rfl slices_S256x1024_o0_256_S256x128 x1
  · obtain rfl : i = 1 := Fin.ext (by show i.val = 1; omega)
    obtain rfl : x1 = d := Fin.ext (by show x1.val = d.val; omega)
    exact tileQ h g (k0_pay14 u w) 1 128 rfl slices_S256x1024_o0_128_S256x128 x1
  · obtain rfl : i = 0 := Fin.ext (by show i.val = 0; omega)
    obtain rfl : x1 = d := Fin.ext (by show x1.val = d.val; omega)
    exact tileQ h g (k0_pay14 u w) 0 0 rfl slices_S256x1024_o0_0_S256x128 x1

/-- What the body's eight tiles of indexer queries hold, two heads each. -/
theorem canonI {C L H : FVec Ideal S256x128 .f32} {r : Fin 256} {c s : Fin 8 → EReal} (h : Pair C L H r c s)
    (u : FVec Ideal S256x2048 .bf16) (w : Vec Ideal S1024x2048 .bf16) (i : Fin 16) (d : Fin 64) (n : Fin 1024) (hn : n.val = i.val * 64 + d.val) :
    View.canon (Val := Elt Ideal) (e := .bf16) [⟨r0_17, k0_pay41 C L H (k0_pay29 u w)⟩, ⟨r0_16, k0_pay40 C L H (k0_pay29 u w)⟩, ⟨r0_15, k0_pay39 H (k0_pay37 (k0_pay29 u w)) (k0_pay38 C L (k0_pay29 u w))⟩, ⟨r0_14, k0_pay36 C L H (k0_pay29 u w)⟩, ⟨r0_13, k0_pay35 C L H (k0_pay29 u w)⟩, ⟨r0_12, k0_pay34 C L H (k0_pay29 u w)⟩, ⟨r0_11, k0_pay33 H (k0_pay31 u w) (k0_pay32 u C L w)⟩, ⟨r0_10, k0_pay30 u C L H w⟩] (ix2 r n)
      = Layer.rope8 (fun l => k0_pay29 (F := Ideal) u w (ix2 r ⟨i.val * 64 + l.val, by omega⟩)) c s d := by
  canon_tiles x a
  all_goals
    idx_vars x
    have a0' : r.val = x0.val := by simpa using a0
    obtain rfl : r = x0 := Fin.ext a0'
  · exact tileI h (k0_pay29 u w) i 896 ⟨i.val % 2, by omega⟩ (by omega) rfl slices_S256x1024_o0_896_S256x128 d x1 (by show x1.val = i.val % 2 * 64 + d.val; omega)
  · exact tileI h (k0_pay29 u w) i 768 ⟨i.val % 2, by omega⟩ (by omega) rfl slices_S256x1024_o0_768_S256x128 d x1 (by show x1.val = i.val % 2 * 64 + d.val; omega)
  · exact tileI h (k0_pay29 u w) i 640 ⟨i.val % 2, by omega⟩ (by omega) rfl slices_S256x1024_o0_640_S256x128 d x1 (by show x1.val = i.val % 2 * 64 + d.val; omega)
  · exact tileI h (k0_pay29 u w) i 512 ⟨i.val % 2, by omega⟩ (by omega) rfl slices_S256x1024_o0_512_S256x128 d x1 (by show x1.val = i.val % 2 * 64 + d.val; omega)
  · exact tileI h (k0_pay29 u w) i 384 ⟨i.val % 2, by omega⟩ (by omega) rfl slices_S256x1024_o0_384_S256x128 d x1 (by show x1.val = i.val % 2 * 64 + d.val; omega)
  · exact tileI h (k0_pay29 u w) i 256 ⟨i.val % 2, by omega⟩ (by omega) rfl slices_S256x1024_o0_256_S256x128 d x1 (by show x1.val = i.val % 2 * 64 + d.val; omega)
  · exact tileI h (k0_pay29 u w) i 128 ⟨i.val % 2, by omega⟩ (by omega) rfl slices_S256x1024_o0_128_S256x128 d x1 (by show x1.val = i.val % 2 * 64 + d.val; omega)
  · exact tileI h (k0_pay29 u w) i 0 ⟨i.val % 2, by omega⟩ (by omega) rfl slices_S256x1024_o0_0_S256x128 d x1 (by show x1.val = i.val % 2 * 64 + d.val; omega)

/-- What the body's two key tiles hold. -/
theorem canonK {C L H : FVec Ideal S256x128 .f32} {r : Fin 256} {c s : Fin 16 → EReal} (h : Wide C L H r c s) (g : FVec Ideal S1x128 .f32)
    (u : FVec Ideal S256x2048 .bf16) (w : Vec Ideal S256x2048 .bf16) (i : Fin 2) (d : Fin 128) (n : Fin 256) (hn : n.val = i.val * 128 + d.val) :
    View.canon (Val := Elt Ideal) (e := .bf16) [⟨r0_19, k0_pay46 C L H g (k0_pay42 u w)⟩, ⟨r0_18, k0_pay45 C L H (k0_pay43 u w) (k0_pay44 g)⟩] (ix2 r n)
      = Layer.rope16 (Layer.rms128 (fun l => k0_pay42 (F := Ideal) u w (ix2 r ⟨i.val * 128 + l.val, by omega⟩)) (fun l => g (ix2 0 l))) c s d := by
  canon_tiles x a
  all_goals
    idx_vars x
    have a0' : r.val = x0.val := by simpa using a0
    obtain rfl : r = x0 := Fin.ext a0'
  · obtain rfl : i = 1 := Fin.ext (by show i.val = 1; omega)
    obtain rfl : x1 = d := Fin.ext (by show x1.val = d.val; omega)
    exact tileK h g (k0_pay42 u w) 1 128 rfl slices_S256x256_o0_128_S256x128 x1
  · obtain rfl : i = 0 := Fin.ext (by show i.val = 0; omega)
    obtain rfl : x1 = d := Fin.ext (by show x1.val = d.val; omega)
    exact tileK h g (k0_pay42 u w) 0 0 rfl slices_S256x256_o0_0_S256x128 x1

/-! ### The products -/

theorem pay14_apply (u : FVec Ideal S256x2048 .bf16) (w : Vec Ideal S1024x2048 .bf16) (r : Fin 256) (n : Fin 1024) :
    k0_pay14 (F := Ideal) u w (ix2 r n) = ∑ k : Fin 2048, u (ix2 r k) * w (ix2 n k) := by
  pointwise [k0_pay14]

theorem pay29_apply (u : FVec Ideal S256x2048 .bf16) (w : Vec Ideal S1024x2048 .bf16) (r : Fin 256) (n : Fin 1024) :
    k0_pay29 (F := Ideal) u w (ix2 r n) = ∑ k : Fin 2048, u (ix2 r k) * w (ix2 n k) := by
  pointwise [k0_pay29]

theorem pay42_apply (u : FVec Ideal S256x2048 .bf16) (w : Vec Ideal S256x2048 .bf16) (r : Fin 256) (n : Fin 256) :
    k0_pay42 (F := Ideal) u w (ix2 r n) = ∑ k : Fin 2048, u (ix2 r k) * w (ix2 n k) := by
  pointwise [k0_pay42]

theorem pay47_apply (u : FVec Ideal S256x2048 .bf16) (w : Vec Ideal S256x2048 .bf16) (r : Fin 256) (n : Fin 256) :
    k0_pay47 (F := Ideal) u w (ix2 r n) = ∑ k : Fin 2048, u (ix2 r k) * w (ix2 n k) := by
  pointwise [k0_pay47]

/-- The product of the indexer's key and weight columns. -/
def keyProduct (u : FVec Ideal S256x2048 .bf16) (w : FVec Ideal S128x2048 .bf16) : FVec Ideal S256x128 .f32 :=
  matmul dot_S256x2048_S128x2048_S256x128_1_1_0_0_n_n none u w (constant (F := Ideal) S256x128 .f32 0x00000000#32)

theorem keyProduct_apply (u : FVec Ideal S256x2048 .bf16) (w : FVec Ideal S128x2048 .bf16) (r : Fin 256) (n : Fin 128) :
    keyProduct u w (ix2 r n) = ∑ k : Fin 2048, u (ix2 r k) * w (ix2 n k) := by
  pointwise [keyProduct]

theorem lane_lo : ∀ l : Fin 128, l.val < 64 → IntOp.cmpi .slt (BitVec.ofNat 32 l.val) 64#32 = 1#1 := by decide +kernel

theorem lane_hi : ∀ l : Fin 128, 64 ≤ l.val → IntOp.cmpi .slt (BitVec.ofNat 32 l.val) 64#32 = 0#1 := by decide +kernel

/-- The mask of the first 64 lanes. -/
theorem mask_lo (r : Fin 256) (l : Fin 128) (h : l.val < 64) : k0_pay1 (ix2 r l) = 1#1 := by
  refine Eq.trans ?_ (lane_lo l h)
  pointwise [k0_pay1]

theorem mask_hi (r : Fin 256) (l : Fin 128) (h : 64 ≤ l.val) : k0_pay1 (ix2 r l) = 0#1 := by
  refine Eq.trans ?_ (lane_hi l h)
  pointwise [k0_pay1]

/-- A table with its last 64 lanes replaced by a constant. -/
def masked (w : BitVec 32) (T : FVec Ideal S256x128 .f32) : FVec Ideal S256x128 .f32 :=
  select k0_pay1 T (broadcast S256x128 (Scalar.ofBits (F := Ideal) .f32 w))

theorem masked_lo (w : BitVec 32) (T : FVec Ideal S256x128 .f32) (r : Fin 256) (l : Fin 128) (h : l.val < 64) :
    masked w T (ix2 r l) = T (ix2 r l) := by
  show Scalar.select (k0_pay1 (ix2 r l)) _ _ = _
  rw [mask_lo r l h]; rfl

theorem masked_hi (w : BitVec 32) (T : FVec Ideal S256x128 .f32) (r : Fin 256) (l : Fin 128) (h : 64 ≤ l.val) :
    masked w T (ix2 r l) = Ideal.ofBits .f32 w := by
  show Scalar.select (k0_pay1 (ix2 r l)) _ _ = _
  rw [mask_hi r l h]; rfl

theorem pay2_eq (u : FVec Ideal S256x2048 .bf16) (C L H : FVec Ideal S256x128 .f32) (w : FVec Ideal S128x2048 .bf16) :
    k0_pay2 (F := Ideal) u C L H w = pairTurn (masked 0x3F800000#32 C) (masked 0x00000000#32 L) (masked 0x00000000#32 H) (keyProduct u w) := rfl

theorem pairTurn_lanes (C L H x : FVec Ideal S256x128 .f32) (r : Fin 256) (l : Fin 128) :
    pairTurn C L H x (ix2 r l) = x (ix2 r l) * C (ix2 r l) + x (ix2 r ⟨(l.val + 128 - 120) % 128, by omega⟩) * L (ix2 r l)
      + x (ix2 r ⟨(l.val + 128 - 8) % 128, by omega⟩) * H (ix2 r l) := by
  pointwise [pairTurn]

/-- The first 64 lanes are the indexer's keys, turned. -/
theorem pay2_lo {C L H : FVec Ideal S256x128 .f32} {r : Fin 256} {c s : Fin 8 → EReal} (h : Pair C L H r c s)
    (u : FVec Ideal S256x2048 .bf16) (w : FVec Ideal S128x2048 .bf16) (d : Fin 64) (n : Fin 128) (hn : n.val = d.val) :
    k0_pay2 (F := Ideal) u C L H w (ix2 r n) = Layer.rope8 (fun l => keyProduct u w (ix2 r ⟨l.val, by omega⟩)) c s d := by
  have hl : n.val < 64 := by omega
  rw [pay2_eq, pairTurn_lanes, masked_lo _ _ _ _ hl, masked_lo _ _ _ _ hl, masked_lo _ _ _ _ hl, ← pairTurn_lanes,
    pairTurn_apply h _ 0 d n (by show n.val = 0 * 64 + d.val; omega)]
  refine congrArg (fun f => Layer.rope8 f c s d) (funext fun l => congrArg (fun k => keyProduct u w (ix2 r k)) (Fin.ext ?_))
  show 0 * 64 + l.val = l.val
  omega

/-- The last 64 lanes are the columns after the keys, as they are. -/
theorem pay2_hi (C L H : FVec Ideal S256x128 .f32) (r : Fin 256)
    (u : FVec Ideal S256x2048 .bf16) (w : FVec Ideal S128x2048 .bf16) (n : Fin 128) (hn : 64 ≤ n.val) :
    k0_pay2 (F := Ideal) u C L H w (ix2 r n) = keyProduct u w (ix2 r n) := by
  rw [pay2_eq, pairTurn_lanes, masked_hi _ _ _ _ hn, masked_hi _ _ _ _ hn, masked_hi _ _ _ _ hn]
  pointwise []
  rw [mul_zero, mul_zero, add_zero, add_zero]

/-- The lanes turned by 64. -/
theorem pay3_apply (C L H : FVec Ideal S256x128 .f32) (r : Fin 256)
    (u : FVec Ideal S256x2048 .bf16) (w : FVec Ideal S128x2048 .bf16) (n p : Fin 128) (hp : p.val = (n.val + 64) % 128) :
    k0_pay3 (F := Ideal) u C L H w (ix2 r n) = k0_pay2 (F := Ideal) u C L H w (ix2 r p) := by
  have e : k0_pay3 (F := Ideal) u C L H w = dynamicRotate 1 64#32 none (k0_pay2 (F := Ideal) u C L H w) rotates_S256x128_d1 := rfl
  have q : (n.val + 128 - 64) % 128 < 128 := by clear hp; omega
  obtain rfl : p = ⟨(n.val + 128 - 64) % 128, q⟩ := Fin.ext (by show p.val = (n.val + 128 - 64) % 128; omega)
  rw [e]
  pointwise []

theorem pay4_lo (C L H : FVec Ideal S256x128 .f32) (r : Fin 256)
    (u : FVec Ideal S256x2048 .bf16) (w : FVec Ideal S128x2048 .bf16) (n : Fin 128) (hn : n.val < 64) :
    k0_pay4 (F := Ideal) u C L H w (ix2 r n) = k0_pay2 (F := Ideal) u C L H w (ix2 r n) := by
  show Scalar.select (k0_pay1 (ix2 r n)) (k0_pay2 (F := Ideal) u C L H w (ix2 r n)) (k0_pay3 (F := Ideal) u C L H w (ix2 r n)) = _
  rw [mask_lo r n hn]; rfl

theorem pay4_hi (C L H : FVec Ideal S256x128 .f32) (r : Fin 256)
    (u : FVec Ideal S256x2048 .bf16) (w : FVec Ideal S128x2048 .bf16) (n : Fin 128) (hn : 64 ≤ n.val) :
    k0_pay4 (F := Ideal) u C L H w (ix2 r n) = k0_pay3 (F := Ideal) u C L H w (ix2 r n) := by
  show Scalar.select (k0_pay1 (ix2 r n)) (k0_pay2 (F := Ideal) u C L H w (ix2 r n)) (k0_pay3 (F := Ideal) u C L H w (ix2 r n)) = _
  rw [mask_hi r n hn]; rfl

/-! ### What the body leaves, entry by entry, from its blocks -/

section
variable (x0 : Vec Ideal S256x2048 .f32) (x1 : Vec Ideal S1x2048 .f32) (x2 x3 : Vec Ideal S1024x2048 .bf16) (x4 x5 : Vec Ideal S256x2048 .bf16)
  (x6 : Vec Ideal S128x2048 .bf16) (x7 x8 : Vec Ideal S1x128 .f32) (x9 : Vec Ideal S6x256x128 .f32) (r : Fin 256)

/-- A row's product with one weight row. -/
def rowDot (x g w : Fin 2048 → EReal) : EReal := ∑ k : Fin 2048, Layer.rms2048 x g k * w k

theorem pay49_apply (k : Fin 2048) : k0_pay49 (F := Ideal) x0 x1 x2 x3 x4 x5 x6 x7 x8 x9 (ix2 r k)
    = Layer.rms2048 (fun l => x0 (ix2 r l)) (fun l => x1 (ix2 0 l)) k := by
  unfold k0_pay49
  rw [show View.ld x0 r0_0 = x0 from View.ld_unit_lit _ _ (by decide), show View.ld x1 r0_1 = x1 from View.ld_unit_lit _ _ (by decide)]
  pointwise [k0_pay5, Layer.rms2048]

theorem gain56 : k0_pay56 (F := Ideal) x0 x1 x2 x3 x4 x5 x6 x7 x8 x9 = x7 := by
  unfold k0_pay56
  rw [show View.ld x7 r0_8 = x7 from View.ld_unit_lit _ _ (by decide)]
  funext y
  idx_vars y
  pointwise [k0_pay12]

theorem gain57 : k0_pay57 (F := Ideal) x0 x1 x2 x3 x4 x5 x6 x7 x8 x9 = x8 := by
  unfold k0_pay57
  rw [show View.ld x8 r0_8 = x8 from View.ld_unit_lit _ _ (by decide)]
  funext y
  idx_vars y
  pointwise [k0_pay13]

theorem rows60 : k0_pay60 (F := Ideal) x0 x1 x2 x3 x4 x5 x6 x7 x8 x9 = x6 := by
  unfold k0_pay60
  rw [show View.ld x6 r0_21 = x6 from View.ld_unit_lit _ _ (by decide)]
  funext y
  idx_vars y
  pointwise [k0_pay48]

theorem table0 (l : Fin 128) : k0_pay50 (F := Ideal) x0 x1 x2 x3 x4 x5 x6 x7 x8 x9 (ix2 r l) = x9 (ix3 0 r l) := by
  refine Eq.trans (b := View.ld x9 r0_2 (ix3 0 r l)) ?_ (View.ld_unit_apply_of _ _ _ _ _ _ fun a => by
    fin_cases a
    · rfl
    · exact (Nat.zero_add _).symm
    · exact (Nat.zero_add _).symm)
  unfold k0_pay50
  generalize View.ld x9 r0_2 = T
  pointwise [k0_pay6]

theorem table1 (l : Fin 128) : k0_pay51 (F := Ideal) x0 x1 x2 x3 x4 x5 x6 x7 x8 x9 (ix2 r l) = x9 (ix3 1 r l) := by
  refine Eq.trans (b := View.ld x9 r0_3 (ix3 0 r l)) ?_ (View.ld_unit_apply_of _ _ _ _ _ _ fun a => by
    fin_cases a
    · rfl
    · exact (Nat.zero_add _).symm
    · exact (Nat.zero_add _).symm)
  unfold k0_pay51
  generalize View.ld x9 r0_3 = T
  pointwise [k0_pay7]

theorem table2 (l : Fin 128) : k0_pay52 (F := Ideal) x0 x1 x2 x3 x4 x5 x6 x7 x8 x9 (ix2 r l) = x9 (ix3 2 r l) := by
  refine Eq.trans (b := View.ld x9 r0_4 (ix3 0 r l)) ?_ (View.ld_unit_apply_of _ _ _ _ _ _ fun a => by
    fin_cases a
    · rfl
    · exact (Nat.zero_add _).symm
    · exact (Nat.zero_add _).symm)
  unfold k0_pay52
  generalize View.ld x9 r0_4 = T
  pointwise [k0_pay8]

theorem table3 (l : Fin 128) : k0_pay53 (F := Ideal) x0 x1 x2 x3 x4 x5 x6 x7 x8 x9 (ix2 r l) = x9 (ix3 3 r l) := by
  refine Eq.trans (b := View.ld x9 r0_5 (ix3 0 r l)) ?_ (View.ld_unit_apply_of _ _ _ _ _ _ fun a => by
    fin_cases a
    · rfl
    · exact (Nat.zero_add _).symm
    · exact (Nat.zero_add _).symm)
  unfold k0_pay53
  generalize View.ld x9 r0_5 = T
  pointwise [k0_pay9]

theorem table4 (l : Fin 128) : k0_pay54 (F := Ideal) x0 x1 x2 x3 x4 x5 x6 x7 x8 x9 (ix2 r l) = x9 (ix3 4 r l) := by
  refine Eq.trans (b := View.ld x9 r0_6 (ix3 0 r l)) ?_ (View.ld_unit_apply_of _ _ _ _ _ _ fun a => by
    fin_cases a
    · rfl
    · exact (Nat.zero_add _).symm
    · exact (Nat.zero_add _).symm)
  unfold k0_pay54
  generalize View.ld x9 r0_6 = T
  pointwise [k0_pay10]

theorem table5 (l : Fin 128) : k0_pay55 (F := Ideal) x0 x1 x2 x3 x4 x5 x6 x7 x8 x9 (ix2 r l) = x9 (ix3 5 r l) := by
  refine Eq.trans (b := View.ld x9 r0_7 (ix3 0 r l)) ?_ (View.ld_unit_apply_of _ _ _ _ _ _ fun a => by
    fin_cases a
    · rfl
    · exact (Nat.zero_add _).symm
    · exact (Nat.zero_add _).symm)
  unfold k0_pay55
  generalize View.ld x9 r0_7 = T
  pointwise [k0_pay11]

/-- The loaded block holds the tables of 128-lane heads at row `r`. -/
structure Tables (c s : Fin 16 → EReal) (c' s' : Fin 8 → EReal) : Prop where
  cos : ∀ l, x9 (ix3 0 r l) = Layer.cosLanes16 c l
  neg : ∀ l, x9 (ix3 1 r l) = Layer.negLanes16 s l
  sin : ∀ l, x9 (ix3 2 r l) = Layer.sinLanes16 s l
  cos' : ∀ l, x9 (ix3 3 r l) = Layer.cosLanes8 c' l
  neg' : ∀ l, x9 (ix3 4 r l) = Layer.negLanes8 s' l
  sin' : ∀ l, x9 (ix3 5 r l) = Layer.sinLanes8 s' l

variable {x9 r} {c s : Fin 16 → EReal} {c' s' : Fin 8 → EReal} (h : Tables x9 r c s c' s')
include h

theorem wide : Wide (k0_pay50 (F := Ideal) x0 x1 x2 x3 x4 x5 x6 x7 x8 x9) (k0_pay51 (F := Ideal) x0 x1 x2 x3 x4 x5 x6 x7 x8 x9) (k0_pay52 (F := Ideal) x0 x1 x2 x3 x4 x5 x6 x7 x8 x9) r c s :=
  ⟨fun l => (table0 ..).trans (h.cos l), fun l => (table1 ..).trans (h.neg l), fun l => (table2 ..).trans (h.sin l)⟩

theorem pair : Pair (k0_pay53 (F := Ideal) x0 x1 x2 x3 x4 x5 x6 x7 x8 x9) (k0_pay54 (F := Ideal) x0 x1 x2 x3 x4 x5 x6 x7 x8 x9) (k0_pay55 (F := Ideal) x0 x1 x2 x3 x4 x5 x6 x7 x8 x9) r c' s' :=
  ⟨fun l => (table3 ..).trans (h.cos' l), fun l => (table4 ..).trans (h.neg' l), fun l => (table5 ..).trans (h.sin' l)⟩

/-- The queries. -/
theorem out10 (i : Fin 8) (d : Fin 128) (n : Fin 1024) (hn : n.val = i.val * 128 + d.val) :
    out0_10 (F := Ideal) x0 x1 x2 x3 x4 x5 x6 x7 x8 x9 (ix2 r n)
      = Layer.rope16 (Layer.rms128 (fun l => rowDot (fun l => x0 (ix2 r l)) (fun l => x1 (ix2 0 l)) fun k => x2 (ix2 ⟨i.val * 128 + l.val, by omega⟩ k)) (fun l => x7 (ix2 0 l))) c s d
        * Ideal.ofBits .f32 0x3E0293EE#32 := by
  refine (canonQ (wide x0 x1 x2 x3 x4 x5 x6 x7 x8 h) (k0_pay56 (F := Ideal) x0 x1 x2 x3 x4 x5 x6 x7 x8 x9) (k0_pay49 (F := Ideal) x0 x1 x2 x3 x4 x5 x6 x7 x8 x9) (View.ld x2 r0_9) i d n hn).trans ?_
  rw [show View.ld x2 r0_9 = x2 from View.ld_unit_lit _ _ (by decide), gain56]
  simp only [pay14_apply, pay49_apply, rowDot]

/-- The indexer's queries. -/
theorem out11 (i : Fin 16) (d : Fin 64) (n : Fin 1024) (hn : n.val = i.val * 64 + d.val) :
    out0_11 (F := Ideal) x0 x1 x2 x3 x4 x5 x6 x7 x8 x9 (ix2 r n)
      = Layer.rope8 (fun l => rowDot (fun l => x0 (ix2 r l)) (fun l => x1 (ix2 0 l)) fun k => x3 (ix2 ⟨i.val * 64 + l.val, by omega⟩ k)) c' s' d := by
  refine (canonI (pair x0 x1 x2 x3 x4 x5 x6 x7 x8 h) (k0_pay49 (F := Ideal) x0 x1 x2 x3 x4 x5 x6 x7 x8 x9) (View.ld x3 r0_9) i d n hn).trans ?_
  rw [show View.ld x3 r0_9 = x3 from View.ld_unit_lit _ _ (by decide)]
  simp only [pay29_apply, pay49_apply, rowDot]

/-- The keys. -/
theorem out12 (i : Fin 2) (d : Fin 128) (n : Fin 256) (hn : n.val = i.val * 128 + d.val) :
    out0_12 (F := Ideal) x0 x1 x2 x3 x4 x5 x6 x7 x8 x9 (ix2 r n)
      = Layer.rope16 (Layer.rms128 (fun l => rowDot (fun l => x0 (ix2 r l)) (fun l => x1 (ix2 0 l)) fun k => x4 (ix2 ⟨i.val * 128 + l.val, by omega⟩ k)) (fun l => x8 (ix2 0 l))) c s d := by
  refine (canonK (wide x0 x1 x2 x3 x4 x5 x6 x7 x8 h) (k0_pay57 (F := Ideal) x0 x1 x2 x3 x4 x5 x6 x7 x8 x9) (k0_pay49 (F := Ideal) x0 x1 x2 x3 x4 x5 x6 x7 x8 x9) (View.ld x4 r0_0) i d n hn).trans ?_
  rw [show View.ld x4 r0_0 = x4 from View.ld_unit_lit _ _ (by decide), gain57]
  simp only [pay42_apply, pay49_apply, rowDot]

omit h in
/-- The values. -/
theorem out13 (n : Fin 256) : out0_13 (F := Ideal) x0 x1 x2 x3 x4 x5 x6 x7 x8 x9 (ix2 r n)
    = rowDot (fun l => x0 (ix2 r l)) (fun l => x1 (ix2 0 l)) fun k => x5 (ix2 n k) := by
  unfold out0_13
  frame_out
  rw [pay47_apply]
  simp only [pay49_apply, rowDot]

omit h in
theorem product_apply (n : Fin 128) : keyProduct (k0_pay49 (F := Ideal) x0 x1 x2 x3 x4 x5 x6 x7 x8 x9) (k0_pay60 (F := Ideal) x0 x1 x2 x3 x4 x5 x6 x7 x8 x9) (ix2 r n)
    = rowDot (fun l => x0 (ix2 r l)) (fun l => x1 (ix2 0 l)) fun k => x6 (ix2 n k) := by
  rw [keyProduct_apply, rows60]
  simp only [pay49_apply, rowDot]

/-- The indexer's keys, from the first 64 lanes of their product. -/
theorem keys (d : Fin 64) (n : Fin 128) (hn : n.val = d.val) :
    k0_pay2 (F := Ideal) (k0_pay49 (F := Ideal) x0 x1 x2 x3 x4 x5 x6 x7 x8 x9) (k0_pay53 (F := Ideal) x0 x1 x2 x3 x4 x5 x6 x7 x8 x9) (k0_pay54 (F := Ideal) x0 x1 x2 x3 x4 x5 x6 x7 x8 x9) (k0_pay55 (F := Ideal) x0 x1 x2 x3 x4 x5 x6 x7 x8 x9) (k0_pay60 (F := Ideal) x0 x1 x2 x3 x4 x5 x6 x7 x8 x9) (ix2 r n)
      = Layer.rope8 (fun l => rowDot (fun l => x0 (ix2 r l)) (fun l => x1 (ix2 0 l)) fun k => x6 (ix2 ⟨l.val, by omega⟩ k)) c' s' d := by
  rw [pay2_lo (pair x0 x1 x2 x3 x4 x5 x6 x7 x8 h) _ _ d n hn]
  simp only [product_apply]

/-- The indexer's keys, twice. -/
theorem out14 (e : Fin 2) (d : Fin 64) (n : Fin 128) (hn : n.val = e.val * 64 + d.val) :
    out0_14 (F := Ideal) x0 x1 x2 x3 x4 x5 x6 x7 x8 x9 (ix2 r n)
      = Layer.rope8 (fun l => rowDot (fun l => x0 (ix2 r l)) (fun l => x1 (ix2 0 l)) fun k => x6 (ix2 ⟨l.val, by omega⟩ k)) c' s' d := by
  unfold out0_14
  frame_out
  by_cases hl : n.val < 64
  · rw [pay4_lo _ _ _ _ _ _ n hl]
    exact keys x0 x1 x2 x3 x4 x5 x6 x7 x8 h d n (by omega)
  · rw [pay4_hi _ _ _ _ _ _ n (by omega), pay3_apply _ _ _ _ _ _ n ⟨d.val, by omega⟩ (by show d.val = _; omega)]
    exact keys x0 x1 x2 x3 x4 x5 x6 x7 x8 h d _ rfl

omit h in
/-- The columns after the indexer's keys. -/
theorem out15_lo (n : Fin 128) (hn : n.val < 64) :
    out0_15 (F := Ideal) x0 x1 x2 x3 x4 x5 x6 x7 x8 x9 (ix2 r n)
      = rowDot (fun l => x0 (ix2 r l)) (fun l => x1 (ix2 0 l)) fun k => x6 (ix2 ⟨64 + n.val, by omega⟩ k) := by
  unfold out0_15
  frame_out
  rw [pay3_apply _ _ _ _ _ _ n ⟨64 + n.val, by omega⟩ (by show 64 + n.val = _; omega), pay2_hi _ _ _ _ _ _ _ (by show 64 ≤ 64 + n.val; omega), product_apply]

/-- The indexer's keys, after those columns. -/
theorem out15_hi (d : Fin 64) (n : Fin 128) (hn : n.val = 64 + d.val) :
    out0_15 (F := Ideal) x0 x1 x2 x3 x4 x5 x6 x7 x8 x9 (ix2 r n)
      = Layer.rope8 (fun l => rowDot (fun l => x0 (ix2 r l)) (fun l => x1 (ix2 0 l)) fun k => x6 (ix2 ⟨l.val, by omega⟩ k)) c' s' d := by
  unfold out0_15
  frame_out
  rw [pay3_apply _ _ _ _ _ _ n ⟨d.val, by omega⟩ (by show d.val = _; omega)]
  exact keys x0 x1 x2 x3 x4 x5 x6 x7 x8 h d _ rfl
end

end Cert.Kernel4Ideal.Value
-- ==== Proof.AttnBlocks.lean ====
module

public import proofs.«01_k».proof.Proof.Gen.Kernel4Ideal.Value
public import proofs.«01_k».proof.Proof.AttnBody
public import proofs.«01_k».proof.Proof.AttnRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen

/-! ### The blocks, read off the arguments -/

variable (m : (ℓ : Loc nD τ sig) → Buf (Elt Ideal) ℓ) (c : Dev nD) (t : Fin cfg0.N)

theorem idxIn : ∀ t : Fin cfg0.N, win0_0.index t = ![t.val, 0] ∧ win0_1.index t = ![0, 0] ∧ win0_2.index t = ![0, 0] ∧ win0_3.index t = ![1536, 0]
    ∧ win0_4.index t = ![1024, 0] ∧ win0_5.index t = ![1280, 0] ∧ win0_6.index t = ![2560, 0] ∧ win0_7.index t = ![0, 0]
    ∧ win0_8.index t = ![0, 0] ∧ win0_9.index t = ![0, t.val % 8, 0] :=
  (by decide +kernel : ∀ t : Fin grid0.N, _)

theorem idxOut : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

theorem blkX (r : Fin 256) (b : Fin 8) (s : Fin 2048) (h : b.val * 2048 + s.val = t.val * 256 + r.val) (l : Fin 2048) :
    iblk m c 0 t (ix2 r l) = m ((c : Thread nD τ).loc main_arg0) (ix3 b s l) := by
  refine Eq.trans ?_ (Tables.rows_apply m c b s l ⟨b.val * 2048 + s.val, by omega⟩ rfl)
  blk_point [iblk, idxIn t]

theorem blkG (l : Fin 2048) : iblk m c 1 t (ix2 0 l) = m ((c : Thread nD τ).loc main_arg1) (ix2 0 l) := by
  refine Eq.trans ?_ (Tables.gain_eq m c l)
  blk_point [iblk, idxIn t]

theorem blkQ (l : Fin 128) : iblk m c 7 t (ix2 0 l) = m ((c : Thread nD τ).loc main_arg3) (ix2 0 l) := by
  refine Eq.trans ?_ (Tables.gainQ_eq m c l)
  blk_point [iblk, idxIn t]

theorem blkK (l : Fin 128) : iblk m c 8 t (ix2 0 l) = m ((c : Thread nD τ).loc main_arg4) (ix2 0 l) := by
  refine Eq.trans ?_ (Tables.gainK_eq m c l)
  blk_point [iblk, idxIn t]

/-- Where an entry of this block of weight rows lies among them: the block's row offset is an element offset. -/
theorem embW2 (y : S1024x2048.Idx) (a : Fin 2) : ((((View.whole main_v2).slice (win0_2.rect t)).emb y a : Fin _) : ℕ) = win0_2.index t a + y a :=
  ValueKit.view_emb_slice_whole_unit_val _ _ _ _ _ _

theorem blkW2 (n : Fin 1024) (k : Fin 2048) (p : Fin 9808) (h : p.val = 0 + n.val) :
    iblk m c 2 t (ix2 n k) = m ((c : Thread nD τ).loc main_arg2) (ix3 0 k p) := by
  refine Eq.trans ?_ (Tables.weight_eq m c p k)
  blk_point [iblk, idxIn t]
  · exact (embW2 t (ix2 n k) 0).trans (by rw [(idxIn t).2.2.1]; show 0 + n.val = p.val; omega)
  · exact (embW2 t (ix2 n k) 1).trans (by rw [(idxIn t).2.2.1]; show 0 + k.val = k.val; omega)

/-- Where an entry of this block of weight rows lies among them: the block's row offset is an element offset. -/
theorem embW3 (y : S1024x2048.Idx) (a : Fin 2) : ((((View.whole main_v2).slice (win0_3.rect t)).emb y a : Fin _) : ℕ) = win0_3.index t a + y a :=
  ValueKit.view_emb_slice_whole_unit_val _ _ _ _ _ _

theorem blkW3 (n : Fin 1024) (k : Fin 2048) (p : Fin 9808) (h : p.val = 1536 + n.val) :
    iblk m c 3 t (ix2 n k) = m ((c : Thread nD τ).loc main_arg2) (ix3 0 k p) := by
  refine Eq.trans ?_ (Tables.weight_eq m c p k)
  blk_point [iblk, idxIn t]
  · exact (embW3 t (ix2 n k) 0).trans (by rw [(idxIn t).2.2.2.1]; show 1536 + n.val = p.val; omega)
  · exact (embW3 t (ix2 n k) 1).trans (by rw [(idxIn t).2.2.2.1]; show 0 + k.val = k.val; omega)

/-- Where an entry of this block of weight rows lies among them: the block's row offset is an element offset. -/
theorem embW4 (y : S256x2048.Idx) (a : Fin 2) : ((((View.whole main_v2).slice (win0_4.rect t)).emb y a : Fin _) : ℕ) = win0_4.index t a + y a :=
  ValueKit.view_emb_slice_whole_unit_val _ _ _ _ _ _

theorem blkW4 (n : Fin 256) (k : Fin 2048) (p : Fin 9808) (h : p.val = 1024 + n.val) :
    iblk m c 4 t (ix2 n k) = m ((c : Thread nD τ).loc main_arg2) (ix3 0 k p) := by
  refine Eq.trans ?_ (Tables.weight_eq m c p k)
  blk_point [iblk, idxIn t]
  · exact (embW4 t (ix2 n k) 0).trans (by rw [(idxIn t).2.2.2.2.1]; show 1024 + n.val = p.val; omega)
  · exact (embW4 t (ix2 n k) 1).trans (by rw [(idxIn t).2.2.2.2.1]; show 0 + k.val = k.val; omega)

/-- Where an entry of this block of weight rows lies among them: the block's row offset is an element offset. -/
theorem embW5 (y : S256x2048.Idx) (a : Fin 2) : ((((View.whole main_v2).slice (win0_5.rect t)).emb y a : Fin _) : ℕ) = win0_5.index t a + y a :=
  ValueKit.view_emb_slice_whole_unit_val _ _ _ _ _ _

theorem blkW5 (n : Fin 256) (k : Fin 2048) (p : Fin 9808) (h : p.val = 1280 + n.val) :
    iblk m c 5 t (ix2 n k) = m ((c : Thread nD τ).loc main_arg2) (ix3 0 k p) := by
  refine Eq.trans ?_ (Tables.weight_eq m c p k)
  blk_point [iblk, idxIn t]
  · exact (embW5 t (ix2 n k) 0).trans (by rw [(idxIn t).2.2.2.2.2.1]; show 1280 + n.val = p.val; omega)
  · exact (embW5 t (ix2 n k) 1).trans (by rw [(idxIn t).2.2.2.2.2.1]; show 0 + k.val = k.val; omega)

/-- Where an entry of this block of weight rows lies among them: the block's row offset is an element offset. -/
theorem embW6 (y : S128x2048.Idx) (a : Fin 2) : ((((View.whole main_v2).slice (win0_6.rect t)).emb y a : Fin _) : ℕ) = win0_6.index t a + y a :=
  ValueKit.view_emb_slice_whole_unit_val _ _ _ _ _ _

theorem blkW6 (n : Fin 128) (k : Fin 2048) (p : Fin 9808) (h : p.val = 2560 + n.val) :
    iblk m c 6 t (ix2 n k) = m ((c : Thread nD τ).loc main_arg2) (ix3 0 k p) := by
  refine Eq.trans ?_ (Tables.weight_eq m c p k)
  blk_point [iblk, idxIn t]
  · exact (embW6 t (ix2 n k) 0).trans (by rw [(idxIn t).2.2.2.2.2.2.1]; show 2560 + n.val = p.val; omega)
  · exact (embW6 t (ix2 n k) 1).trans (by rw [(idxIn t).2.2.2.2.2.2.1]; show 0 + k.val = k.val; omega)

theorem blkT (a : Fin 6) (r : Fin 256) (s : Fin 2048) (h : s.val = t.val % 8 * 256 + r.val) (l : Fin 128) :
    iblk m c 9 t (ix3 a r l) = Tables.stacked (ix3 a s l) := by
  rw [← Tables.stacked_eq m c]
  blk_point [iblk, idxIn t]

end Cert.Kernel4Ideal.Value
-- ==== Proof.Attn.lean ====
module

public import proofs.«01_k».proof.Proof.Gen.Kernel4Ideal.Value
public import proofs.«01_k».proof.Proof.AttnBlocks
public import proofs.«01_k».proof.Proof.AttnRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen

variable (m : (ℓ : Loc nD τ sig) → Buf (Elt Ideal) ℓ) (c : Dev nD) (t : Fin cfg0.N)

/-! ### The results -/

/-- The reference's projection at the arguments. -/
abbrev columns : FVec Ideal Cert.Reference4Ideal.S8x2048x9808 .f32 := Cert.Reference4Ideal.Read.proj (m ((c : Thread nD τ).loc main_arg0)) (m ((c : Thread nD τ).loc main_arg1)) (m ((c : Thread nD τ).loc main_arg2))

variable (r : Fin 256) (b : Fin 8) (s : Fin 2048) (h : b.val * 2048 + s.val = t.val * 256 + r.val)

include h in
theorem dot2 (n : Fin 1024) : rowDot (fun l => iblk m c 0 t (ix2 r l)) (fun l => iblk m c 1 t (ix2 0 l)) (fun k => iblk m c 2 t (ix2 n k))
    = columns m c (ix3 b s ⟨n.val, by omega⟩) := by
  rw [columns, Cert.Reference4Ideal.Read.proj_apply]
  unfold rowDot
  refine Finset.sum_congr rfl fun k _ => ?_
  beta_reduce
  rw [blkW2 m c t n k ⟨n.val, by omega⟩ (by show n.val = _; omega)]
  simp only [blkX m c t r b s h, blkG]

include h in
theorem dot3 (n : Fin 1024) : rowDot (fun l => iblk m c 0 t (ix2 r l)) (fun l => iblk m c 1 t (ix2 0 l)) (fun k => iblk m c 3 t (ix2 n k))
    = columns m c (ix3 b s ⟨1536 + n.val, by omega⟩) := by
  rw [columns, Cert.Reference4Ideal.Read.proj_apply]
  unfold rowDot
  refine Finset.sum_congr rfl fun k _ => ?_
  beta_reduce
  rw [blkW3 m c t n k ⟨1536 + n.val, by omega⟩ (by show 1536 + n.val = _; omega)]
  simp only [blkX m c t r b s h, blkG]

include h in
theorem dot4 (n : Fin 256) : rowDot (fun l => iblk m c 0 t (ix2 r l)) (fun l => iblk m c 1 t (ix2 0 l)) (fun k => iblk m c 4 t (ix2 n k))
    = columns m c (ix3 b s ⟨1024 + n.val, by omega⟩) := by
  rw [columns, Cert.Reference4Ideal.Read.proj_apply]
  unfold rowDot
  refine Finset.sum_congr rfl fun k _ => ?_
  beta_reduce
  rw [blkW4 m c t n k ⟨1024 + n.val, by omega⟩ (by show 1024 + n.val = _; omega)]
  simp only [blkX m c t r b s h, blkG]

include h in
theorem dot5 (n : Fin 256) : rowDot (fun l => iblk m c 0 t (ix2 r l)) (fun l => iblk m c 1 t (ix2 0 l)) (fun k => iblk m c 5 t (ix2 n k))
    = columns m c (ix3 b s ⟨1280 + n.val, by omega⟩) := by
  rw [columns, Cert.Reference4Ideal.Read.proj_apply]
  unfold rowDot
  refine Finset.sum_congr rfl fun k _ => ?_
  beta_reduce
  rw [blkW5 m c t n k ⟨1280 + n.val, by omega⟩ (by show 1280 + n.val = _; omega)]
  simp only [blkX m c t r b s h, blkG]

include h in
theorem dot6 (n : Fin 128) : rowDot (fun l => iblk m c 0 t (ix2 r l)) (fun l => iblk m c 1 t (ix2 0 l)) (fun k => iblk m c 6 t (ix2 n k))
    = columns m c (ix3 b s ⟨2560 + n.val, by omega⟩) := by
  rw [columns, Cert.Reference4Ideal.Read.proj_apply]
  unfold rowDot
  refine Finset.sum_congr rfl fun k _ => ?_
  beta_reduce
  rw [blkW6 m c t n k ⟨2560 + n.val, by omega⟩ (by show 2560 + n.val = _; omega)]
  simp only [blkX m c t r b s h, blkG]

include h in
/-- The table block at row `r` holds the cosines and sines of position `s`. -/
theorem tables : Tables (iblk m c 9 t) r (fun f => Ideal.cos (Layer.angle 0x42000000#32 s.val f.val)) (fun f => Ideal.sin (Layer.angle 0x42000000#32 s.val f.val))
    (fun f => Ideal.cos (Layer.angle 0x41800000#32 s.val f.val)) (fun f => Ideal.sin (Layer.angle 0x41800000#32 s.val f.val)) := by
  have ht : t.val < 64 := t.isLt
  have hs : s.val = t.val % 8 * 256 + r.val := by omega
  exact ⟨fun l => (blkT m c t 0 r s hs l).trans ((Tables.stacked_apply s l).1.trans (Tables.cosWide_apply s l)),
    fun l => (blkT m c t 1 r s hs l).trans ((Tables.stacked_apply s l).2.1.trans (Tables.negWide_apply s l)),
    fun l => (blkT m c t 2 r s hs l).trans ((Tables.stacked_apply s l).2.2.1.trans (Tables.sinWide_apply s l)),
    fun l => (blkT m c t 3 r s hs l).trans ((Tables.stacked_apply s l).2.2.2.1.trans (Tables.cosPair_apply s l)),
    fun l => (blkT m c t 4 r s hs l).trans ((Tables.stacked_apply s l).2.2.2.2.1.trans (Tables.negPair_apply s l)),
    fun l => (blkT m c t 5 r s hs l).trans ((Tables.stacked_apply s l).2.2.2.2.2.trans (Tables.sinPair_apply s l))⟩

include h in
theorem point10 (n : Fin 1024) (j : Fin 16384) (hj : j.val = t.val * 256 + r.val) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r n) = Cert.Reference4Ideal.Read.q (columns m c) (m ((c : Thread nD τ).loc main_arg3)) (ix2 j n) := by
  have hj' : j.val = b.val * 2048 + s.val := by omega
  have hn : n.val = (⟨n.val / 128, by omega⟩ : Fin 8).val * 128 + (⟨n.val % 128, by omega⟩ : Fin 128).val := by
    show n.val = n.val / 128 * 128 + n.val % 128
    omega
  rw [Cert.Reference4Ideal.Read.q_apply (columns m c) (m ((c : Thread nD τ).loc main_arg3)) b s _ _ j hj' n hn]
  refine (out10 _ _ _ _ _ _ _ _ _ (tables m c t r b s h) _ _ n hn).trans ?_
  simp only [dot2 m c t r b s h, blkQ, Cert.Reference4Ideal.Read.cos16_apply, Cert.Reference4Ideal.Read.sin16_apply]

include h in
theorem point11 (n : Fin 1024) (j : Fin 16384) (hj : j.val = t.val * 256 + r.val) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r n) = Cert.Reference4Ideal.Read.qi (columns m c) (ix2 j n) := by
  have hj' : j.val = b.val * 2048 + s.val := by omega
  have hn : n.val = (⟨n.val / 64, by omega⟩ : Fin 16).val * 64 + (⟨n.val % 64, by omega⟩ : Fin 64).val := by
    show n.val = n.val / 64 * 64 + n.val % 64
    omega
  rw [Cert.Reference4Ideal.Read.qi_apply (columns m c) b s _ _ j hj' n hn]
  refine (out11 _ _ _ _ _ _ _ _ _ (tables m c t r b s h) _ _ n hn).trans ?_
  simp only [dot3 m c t r b s h, Cert.Reference4Ideal.Read.cos8_apply, Cert.Reference4Ideal.Read.sin8_apply]

include h in
theorem point12 (n : Fin 256) (j : Fin 16384) (hj : j.val = t.val * 256 + r.val) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r n) = Cert.Reference4Ideal.Read.k (columns m c) (m ((c : Thread nD τ).loc main_arg4)) (ix2 j n) := by
  have hj' : j.val = b.val * 2048 + s.val := by omega
  have hn : n.val = (⟨n.val / 128, by omega⟩ : Fin 2).val * 128 + (⟨n.val % 128, by omega⟩ : Fin 128).val := by
    show n.val = n.val / 128 * 128 + n.val % 128
    omega
  rw [Cert.Reference4Ideal.Read.k_apply (columns m c) (m ((c : Thread nD τ).loc main_arg4)) b s _ _ j hj' n hn]
  refine (out12 _ _ _ _ _ _ _ _ _ (tables m c t r b s h) _ _ n hn).trans ?_
  simp only [dot4 m c t r b s h, blkK, Cert.Reference4Ideal.Read.cos16_apply, Cert.Reference4Ideal.Read.sin16_apply]

include h in
theorem point13 (n : Fin 256) (j : Fin 16384) (hj : j.val = t.val * 256 + r.val) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r n) = Cert.Reference4Ideal.Read.v (columns m c) (ix2 j n) := by
  have hj' : j.val = b.val * 2048 + s.val := by omega
  rw [Cert.Reference4Ideal.Read.v_apply (columns m c) b s j hj' n]
  exact (out13 _ _ _ _ _ _ _ _ _ n).trans (dot5 m c t r b s h n)

include h in
theorem point14 (n : Fin 128) (j : Fin 16384) (hj : j.val = t.val * 256 + r.val) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r n) = Cert.Reference4Ideal.Read.ki2 (columns m c) (ix2 j n) := by
  have hj' : j.val = b.val * 2048 + s.val := by omega
  have hn : n.val = (⟨n.val / 64, by omega⟩ : Fin 2).val * 64 + (⟨n.val % 64, by omega⟩ : Fin 64).val := by
    show n.val = n.val / 64 * 64 + n.val % 64
    omega
  rw [Cert.Reference4Ideal.Read.ki2_apply (columns m c) b s _ _ j hj' n hn, Cert.Reference4Ideal.Read.ki_apply]
  refine (out14 _ _ _ _ _ _ _ _ _ (tables m c t r b s h) _ _ n hn).trans ?_
  simp only [dot6 m c t r b s h, Cert.Reference4Ideal.Read.cos8_apply, Cert.Reference4Ideal.Read.sin8_apply]

include h in
theorem point15 (n : Fin 128) (j : Fin 16384) (hj : j.val = t.val * 256 + r.val) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r n) = Cert.Reference4Ideal.Read.wiki (columns m c) (ix2 j n) := by
  have hj' : j.val = b.val * 2048 + s.val := by omega
  by_cases hl : n.val < 64
  · rw [Cert.Reference4Ideal.Read.wiki_lo (columns m c) b s ⟨n.val, hl⟩ j hj' n rfl]
    refine (out15_lo _ _ _ _ _ _ _ _ _ n hl).trans ((dot6 m c t r b s h _).trans (congrArg (fun p => columns m c (ix3 b s p)) (Fin.ext ?_)))
    show 2560 + (64 + n.val) = 2624 + n.val
    omega
  · have hn : n.val = 64 + (⟨n.val - 64, by omega⟩ : Fin 64).val := by
      show n.val = 64 + (n.val - 64)
      omega
    rw [Cert.Reference4Ideal.Read.wiki_hi (columns m c) b s _ j hj' n hn, Cert.Reference4Ideal.Read.ki_apply]
    refine (out15_hi _ _ _ _ _ _ _ _ _ (tables m c t r b s h) _ n hn).trans ?_
    simp only [dot6 m c t r b s h, Cert.Reference4Ideal.Read.cos8_apply, Cert.Reference4Ideal.Read.sin8_apply]

theorem final10 (c : Dev nD) : (dats m 0 c).arrAt 10 (cfgs 0).N = Cert.Reference4Ideal.Read.q (columns m c) (m ((c : Thread nD τ).loc main_arg3)) := by
  refine (dats m 0 c).arrAt_eq_of_covers 10 _ (by decide +kernel) fun t hf y => ?_
  have ht : t.val < 64 := t.isLt
  blk_simp
  rw [after0_10]
  idx_vars y
  refine (point10 m c t y0 ⟨t.val / 8, by omega⟩ ⟨t.val % 8 * 256 + y0.val, by omega⟩ (by show t.val / 8 * 2048 + (t.val % 8 * 256 + y0.val) = _; omega)
    y1 ⟨t.val * 256 + y0.val, by omega⟩ rfl).trans (congrArg _ ?_)
  blk_ext [idxOut t]

theorem final11 (c : Dev nD) : (dats m 0 c).arrAt 11 (cfgs 0).N = Cert.Reference4Ideal.Read.qi (columns m c) := by
  refine (dats m 0 c).arrAt_eq_of_covers 11 _ (by decide +kernel) fun t hf y => ?_
  have ht : t.val < 64 := t.isLt
  blk_simp
  rw [after0_11]
  idx_vars y
  refine (point11 m c t y0 ⟨t.val / 8, by omega⟩ ⟨t.val % 8 * 256 + y0.val, by omega⟩ (by show t.val / 8 * 2048 + (t.val % 8 * 256 + y0.val) = _; omega)
    y1 ⟨t.val * 256 + y0.val, by omega⟩ rfl).trans (congrArg _ ?_)
  blk_ext [idxOut t]

theorem final12 (c : Dev nD) : (dats m 0 c).arrAt 12 (cfgs 0).N = Cert.Reference4Ideal.Read.k (columns m c) (m ((c : Thread nD τ).loc main_arg4)) := by
  refine (dats m 0 c).arrAt_eq_of_covers 12 _ (by decide +kernel) fun t hf y => ?_
  have ht : t.val < 64 := t.isLt
  blk_simp
  rw [after0_12]
  idx_vars y
  refine (point12 m c t y0 ⟨t.val / 8, by omega⟩ ⟨t.val % 8 * 256 + y0.val, by omega⟩ (by show t.val / 8 * 2048 + (t.val % 8 * 256 + y0.val) = _; omega)
    y1 ⟨t.val * 256 + y0.val, by omega⟩ rfl).trans (congrArg _ ?_)
  blk_ext [idxOut t]

theorem final13 (c : Dev nD) : (dats m 0 c).arrAt 13 (cfgs 0).N = Cert.Reference4Ideal.Read.v (columns m c) := by
  refine (dats m 0 c).arrAt_eq_of_covers 13 _ (by decide +kernel) fun t hf y => ?_
  have ht : t.val < 64 := t.isLt
  blk_simp
  rw [after0_13]
  idx_vars y
  refine (point13 m c t y0 ⟨t.val / 8, by omega⟩ ⟨t.val % 8 * 256 + y0.val, by omega⟩ (by show t.val / 8 * 2048 + (t.val % 8 * 256 + y0.val) = _; omega)
    y1 ⟨t.val * 256 + y0.val, by omega⟩ rfl).trans (congrArg _ ?_)
  blk_ext [idxOut t]

theorem final14 (c : Dev nD) : (dats m 0 c).arrAt 14 (cfgs 0).N = Cert.Reference4Ideal.Read.ki2 (columns m c) := by
  refine (dats m 0 c).arrAt_eq_of_covers 14 _ (by decide +kernel) fun t hf y => ?_
  have ht : t.val < 64 := t.isLt
  blk_simp
  rw [after0_14]
  idx_vars y
  refine (point14 m c t y0 ⟨t.val / 8, by omega⟩ ⟨t.val % 8 * 256 + y0.val, by omega⟩ (by show t.val / 8 * 2048 + (t.val % 8 * 256 + y0.val) = _; omega)
    y1 ⟨t.val * 256 + y0.val, by omega⟩ rfl).trans (congrArg _ ?_)
  blk_ext [idxOut t]

theorem final15 (c : Dev nD) : (dats m 0 c).arrAt 15 (cfgs 0).N = Cert.Reference4Ideal.Read.wiki (columns m c) := by
  refine (dats m 0 c).arrAt_eq_of_covers 15 _ (by decide +kernel) fun t hf y => ?_
  have ht : t.val < 64 := t.isLt
  blk_simp
  rw [after0_15]
  idx_vars y
  refine (point15 m c t y0 ⟨t.val / 8, by omega⟩ ⟨t.val % 8 * 256 + y0.val, by omega⟩ (by show t.val / 8 * 2048 + (t.val % 8 * 256 + y0.val) = _; omega)
    y1 ⟨t.val * 256 + y0.val, by omega⟩ rfl).trans (congrArg _ ?_)
  blk_ext [idxOut t]

end Cert.Kernel4Ideal.Value
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gate
public import proofs.«01_k».proof.Proof.Ffn
public import proofs.«01_k».proof.Proof.Merge
public import proofs.«01_k».proof.Proof.Attn
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.KernelIdeal.Value.final m c).symm

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  exact (Cert.Kernel2Ideal.Value.final m c).symm

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  simp only [Cert.Reference3Ideal.Read.run_eq, hagree c]
  exact (Cert.Kernel3Ideal.Value.final m c).symm

theorem quiescent_Reference4Ideal : quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨_, _, _, _, _, _, Cert.Kernel4Ideal.Value.run_blocks (F := Ideal) m ρ, ?_⟩
  refine (θ_run Cert.Reference4Ideal.defs _ _).mono (fun _ h c => ?_) (Cert.Reference4Ideal.Read.run_reads m' ρ')
  obtain ⟨h0, h1, h2, h3, h4, h5, hargs⟩ := h c
  simp only [hagree c] at h0 h1 h2 h3 h4 h5
  exact ⟨h0.trans (Cert.Kernel4Ideal.Value.final10 m c).symm, h1.trans (Cert.Kernel4Ideal.Value.final11 m c).symm,
    h2.trans (Cert.Kernel4Ideal.Value.final12 m c).symm, h3.trans (Cert.Kernel4Ideal.Value.final13 m c).symm,
    h4.trans (Cert.Kernel4Ideal.Value.final14 m c).symm, h5.trans (Cert.Kernel4Ideal.Value.final15 m c).symm, hargs⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal⟩

end Cert.Proof

end
